-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_in_vocab [hPre_finite_in_vocab : Cert.Pre_finite_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocab [hPre_finite_in_vocab : Cert.Pre_finite_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_vocab [hKernelIdeal : Cert.KernelIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocab m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_vocab [hReferenceIdeal : Cert.ReferenceIdeal.Facts] [hPre_finite_in_vocab : Cert.Pre_finite_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_in_vocab [hKernelIdeal : Cert.KernelIdeal.Facts] [hReferenceIdeal : Cert.ReferenceIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_finite_in_vocab : Cert.Pre_finite_in_vocab.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_finite_in_vocab (hKernelIdeal := hKernelIdeal) (hPre_finite_in_vocab := hPre_finite_in_vocab)
    ∧ quiescent_ReferenceIdeal (hReferenceIdeal := hReferenceIdeal)
    ∧ quiescent_ReferenceIdeal_pre_finite_in_vocab (hReferenceIdeal := hReferenceIdeal) (hPre_finite_in_vocab := hPre_finite_in_vocab)
    ∧ preserves_Kernel_KernelIdeal
    ∧ algebraic_KernelIdeal_ReferenceIdeal_pre_finite_in_vocab (hKernelIdeal := hKernelIdeal) (hReferenceIdeal := hReferenceIdeal) (hPre_finite_in_vocab := hPre_finite_in_vocab)
-- ==== Pre_finite_in_vocab.lean ====
abbrev S4096x7 : Shape := ⟨2, ![4096, 7]⟩
abbrev S100000x128 : Shape := ⟨2, ![100000, 128]⟩
abbrev S896x1024 : Shape := ⟨2, ![896, 1024]⟩
abbrev S1024 : Shape := ⟨1, ![1024]⟩
abbrev S1024x45 : Shape := ⟨2, ![1024, 45]⟩
abbrev S45 : Shape := ⟨1, ![45]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S896x1024 : S_.BroadcastsInDim S896x1024 (![] : Fin 0 → Fin S896x1024.rank)
  reducesTo_S896x1024_S_d0_1 : S896x1024.ReducesTo [0, 1] S_
  bcast_S_S1024 : S_.BroadcastsInDim S1024 (![] : Fin 0 → Fin S1024.rank)
  reducesTo_S1024_S_d0 : S1024.ReducesTo [0] S_
  bcast_S_S1024x45 : S_.BroadcastsInDim S1024x45 (![] : Fin 0 → Fin S1024x45.rank)
  reducesTo_S1024x45_S_d0_1 : S1024x45.ReducesTo [0, 1] S_
  bcast_S_S45 : S_.BroadcastsInDim S45 (![] : Fin 0 → Fin S45.rank)
  reducesTo_S45_S_d0 : S45.ReducesTo [0] S_
  bcast_S_S4096x7 : S_.BroadcastsInDim S4096x7 (![] : Fin 0 → Fin S4096x7.rank)
  reducesTo_S4096x7_S_d0_1 : S4096x7.ReducesTo [0, 1] S_

variable [Facts]

def fn_part1 {F : FTy → Type} [FloatOps F] (main_arg0 : IVec S4096x7 32) (main_arg5 : FVec F S45 .f32) (main_v13 : IVec S_ 1) (main_v16 : IVec S1024x45 1) : IVec S_ 1 :=
  let main_c_5 : IVec S_ 1 := constantI S_ 1 1#1
  let main_v17 : IVec S_ 1 := (fun x v => Host.reduce IntOp.andi x v reducesTo_S1024x45_S_d0_1 h_S_) main_v16 main_c_5
  let main_v18 : IVec S_ 1 := andi main_v13 main_v17
  let main_v19 : FVec F S45 .f32 := Host.absf main_arg5
  let main_cst_6 : FVec F S_ .f32 := constant S_ .f32 0x7F800000#32
  let main_v20 : FVec F S45 .f32 := broadcastInDim S45 ![] bcast_S_S45 main_cst_6
  let main_v21 : IVec S45 1 := cmpf .olt main_v19 main_v20
  let main_c_7 : IVec S_ 1 := constantI S_ 1 1#1
  let main_v22 : IVec S_ 1 := (fun x v => Host.reduce IntOp.andi x v reducesTo_S45_S_d0 h_S_) main_v21 main_c_7
  let main_v23 : IVec S_ 1 := andi main_v18 main_v22
  let main_c_8 : IVec S_ 32 := constantI S_ 32 0#32
  let main_v24 : IVec S4096x7 32 := broadcastInDim S4096x7 ![] bcast_S_S4096x7 main_c_8
  let main_v25 : IVec S4096x7 1 := cmpi .sge main_arg0 main_v24
  let main_c_9 : IVec S_ 32 := constantI S_ 32 100000#32
  let main_v26 : IVec S4096x7 32 := broadcastInDim S4096x7 ![] bcast_S_S4096x7 main_c_9
  let main_v27 : IVec S4096x7 1 := cmpi .slt main_arg0 main_v26
  let main_v28 : IVec S4096x7 1 := andi main_v25 main_v27
  let main_c_10 : IVec S_ 1 := constantI S_ 1 1#1
  let main_v29 : IVec S_ 1 := (fun x v => Host.reduce IntOp.andi x v reducesTo_S4096x7_S_d0_1 h_S_) main_v28 main_c_10
  let main_v30 : IVec S_ 1 := andi main_v29 main_v23
  main_v30

def fn {F : FTy → Type} [FloatOps F] (main_arg0 : IVec S4096x7 32) (main_arg1 : FVec F S100000x128 .f32) (main_arg2 : FVec F S896x1024 .f32) (main_arg3 : FVec F S1024 .f32) (main_arg4 : FVec F S1024x45 .f32) (main_arg5 : FVec F S45 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S896x1024 .f32 := Host.absf main_arg2
  let main_cst_0 : FVec F S_ .f32 := constant S_ .f32 0x7F800000#32
  let main_v5 : FVec F S896x1024 .f32 := broadcastInDim S896x1024 ![] bcast_S_S896x1024 main_cst_0
  let main_v6 : IVec S896x1024 1 := cmpf .olt main_v4 main_v5
  let main_c_1 : IVec S_ 1 := constantI S_ 1 1#1
  let main_v7 : IVec S_ 1 := (fun x v => Host.reduce IntOp.andi x v reducesTo_S896x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x45 .f32 := Host.absf main_arg4
  let main_cst_4 : FVec F S_ .f32 := constant S_ .f32 0x7F800000#32
  let main_v15 : FVec F S1024x45 .f32 := broadcastInDim S1024x45 ![] bcast_S_S1024x45 main_cst_4
  let main_v16 : IVec S1024x45 1 := cmpf .olt main_v14 main_v15
  fn_part1 (F := F) main_arg0 main_arg5 main_v13 main_v16
-- ==== Pre_in_vocab.lean ====
abbrev S4096x7 : Shape := ⟨2, ![4096, 7]⟩
abbrev S100000x128 : Shape := ⟨2, ![100000, 128]⟩
abbrev S896x1024 : Shape := ⟨2, ![896, 1024]⟩
abbrev S1024 : Shape := ⟨1, ![1024]⟩
abbrev S1024x45 : Shape := ⟨2, ![1024, 45]⟩
abbrev S45 : Shape := ⟨1, ![45]⟩
abbrev S_ : Shape := ⟨0, ![]⟩

class Facts : Prop where
  bcast_S_S4096x7 : S_.BroadcastsInDim S4096x7 (![] : Fin 0 → Fin S4096x7.rank)
  reducesTo_S4096x7_S_d0_1 : S4096x7.ReducesTo [0, 1] S_
  h_S_ : 0 < S_.numel

variable [Facts]

def fn {F : FTy → Type} [FloatOps F] (main_arg0 : IVec S4096x7 32) (main_arg1 : FVec F S100000x128 .f32) (main_arg2 : FVec F S896x1024 .f32) (main_arg3 : FVec F S1024 .f32) (main_arg4 : FVec F S1024x45 .f32) (main_arg5 : FVec F S45 .f32) : IVec S_ 1 :=
  let main_c : IVec S_ 32 := constantI S_ 32 0#32
  let main_v0 : IVec S4096x7 32 := broadcastInDim S4096x7 ![] bcast_S_S4096x7 main_c
  let main_v1 : IVec S4096x7 1 := cmpi .sge main_arg0 main_v0
  let main_c_0 : IVec S_ 32 := constantI S_ 32 100000#32
  let main_v2 : IVec S4096x7 32 := broadcastInDim S4096x7 ![] bcast_S_S4096x7 main_c_0
  let main_v3 : IVec S4096x7 1 := cmpi .slt main_arg0 main_v2
  let main_v4 : IVec S4096x7 1 := andi main_v1 main_v3
  let main_c_1 : IVec S_ 1 := constantI S_ 1 1#1
  let main_v5 : IVec S_ 1 := (fun x v => Host.reduce IntOp.andi x v reducesTo_S4096x7_S_d0_1 h_S_) main_v4 main_c_1
  main_v5
-- ==== Kernel.lean ====
abbrev S4096x7 : Shape := ⟨2, ![4096, 7]⟩
abbrev S100000x128 : Shape := ⟨2, ![100000, 128]⟩
abbrev S896x1024 : Shape := ⟨2, ![896, 1024]⟩
abbrev S1024 : Shape := ⟨1, ![1024]⟩
abbrev S1024x45 : Shape := ⟨2, ![1024, 45]⟩
abbrev S45 : Shape := ⟨1, ![45]⟩
abbrev S7x4096 : Shape := ⟨2, ![7, 4096]⟩
abbrev S32x7x128 : Shape := ⟨3, ![32, 7, 128]⟩
abbrev S28672x128 : Shape := ⟨2, ![28672, 128]⟩
abbrev S7x128 : Shape := ⟨2, ![7, 128]⟩
abbrev S896x128 : Shape := ⟨2, ![896, 128]⟩
abbrev S_ : Shape := ⟨0, ![]⟩
abbrev S1x7x128 : Shape := ⟨3, ![1, 7, 128]⟩
abbrev S128x128 : Shape := ⟨2, ![128, 128]⟩
abbrev S1x128 : Shape := ⟨2, ![1, 128]⟩
abbrev S128 : Shape := ⟨1, ![128]⟩
abbrev S7x4096x128 : Shape := ⟨3, ![7, 4096, 128]⟩
abbrev S7x128x1024 : Shape := ⟨3, ![7, 128, 1024]⟩
abbrev S1x1024 : Shape := ⟨2, ![1, 1024]⟩
abbrev S1x45 : Shape := ⟨2, ![1, 45]⟩
abbrev S4096x45 : Shape := ⟨2, ![4096, 45]⟩
abbrev S7x512x128 : Shape := ⟨3, ![7, 512, 128]⟩
abbrev S512x45 : Shape := ⟨2, ![512, 45]⟩
abbrev S1x512x128 : Shape := ⟨3, ![1, 512, 128]⟩
abbrev S512x128 : Shape := ⟨2, ![512, 128]⟩
abbrev S1x128x1024 : Shape := ⟨3, ![1, 128, 1024]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩

abbrev nBuf : Table → Nat
  | .hbm => 14
  | .local .tc .vmem => 9
  | .local .scVector .vmem => 2
  | _ => 0

abbrev bufTy : (tb : Table) → Fin (nBuf tb) → BufTy
  | .hbm, ⟨0, _⟩ => ⟨S4096x7, .i32⟩
  | .hbm, ⟨1, _⟩ => ⟨S100000x128, .f32⟩
  | .hbm, ⟨2, _⟩ => ⟨S896x1024, .f32⟩
  | .hbm, ⟨3, _⟩ => ⟨S1024, .f32⟩
  | .hbm, ⟨4, _⟩ => ⟨S1024x45, .f32⟩
  | .hbm, ⟨5, _⟩ => ⟨S45, .f32⟩
  | .hbm, ⟨6, _⟩ => ⟨S7x4096, .i32⟩
  | .hbm, ⟨7, _⟩ => ⟨S32x7x128, .i32⟩
  | .hbm, ⟨8, _⟩ => ⟨S28672x128, .f32⟩
  | .hbm, ⟨9, _⟩ => ⟨S7x4096x128, .f32⟩
  | .hbm, ⟨10, _⟩ => ⟨S7x128x1024, .f32⟩
  | .hbm, ⟨11, _⟩ => ⟨S1x1024, .f32⟩
  | .hbm, ⟨12, _⟩ => ⟨S1x45, .f32⟩
  | .hbm, ⟨13, _⟩ => ⟨S4096x45, .f32⟩
  | .local .tc .vmem, ⟨0, _⟩ => ⟨S7x512x128, .f32⟩
  | .local .tc .vmem, ⟨1, _⟩ => ⟨S7x512x128, .f32⟩
  | .local .tc .vmem, ⟨2, _⟩ => ⟨S7x128x1024, .f32⟩
  | .local .tc .vmem, ⟨3, _⟩ => ⟨S1x1024, .f32⟩
  | .local .tc .vmem, ⟨4, _⟩ => ⟨S1024x45, .f32⟩
  | .local .tc .vmem, ⟨5, _⟩ => ⟨S1x45, .f32⟩
  | .local .tc .vmem, ⟨6, _⟩ => ⟨S512x45, .f32⟩
  | .local .tc .vmem, ⟨7, _⟩ => ⟨S512x45, .f32⟩
  | .local .tc .vmem, ⟨8, _⟩ => ⟨S7x128x1024, .bf16⟩
  | .local .scVector .vmem, ⟨0, _⟩ => ⟨S7x128, .i32⟩
  | .local .scVector .vmem, ⟨1, _⟩ => ⟨S896x128, .f32⟩
  | _, _ => ⟨S4096x7, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v1_scv : Ref sig .scVector := ⟨.hbm, 7, rfl⟩
abbrev main_arg1_scv : Ref sig .scVector := ⟨.hbm, 1, rfl⟩
abbrev main_v2_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc1_scratch0 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r0 : BitVec 32 := 0#32
  let c0_i32_77_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v2 : BitVec 32 := Scalar.muli v1 c896_i32
  let c0_i32_72 : BitVec 32 := 0#32
  ![v2.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S7x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S7x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x45 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x45 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x45 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x7 : Shape := ⟨2, ![4096, 7]⟩
abbrev S100000x128 : Shape := ⟨2, ![100000, 128]⟩
abbrev S896x1024 : Shape := ⟨2, ![896, 1024]⟩
abbrev S1024 : Shape := ⟨1, ![1024]⟩
abbrev S1024x45 : Shape := ⟨2, ![1024, 45]⟩
abbrev S45 : Shape := ⟨1, ![45]⟩
abbrev S4096x3 : Shape := ⟨2, ![4096, 3]⟩
abbrev S4096x1 : Shape := ⟨2, ![4096, 1]⟩
abbrev S4096 : Shape := ⟨1, ![4096]⟩
abbrev S_ : Shape := ⟨0, ![]⟩
abbrev S4096x3x1 : Shape := ⟨3, ![4096, 3, 1]⟩
abbrev S1 : Shape := ⟨1, ![1]⟩
abbrev S1x1x1 : Shape := ⟨3, ![1, 1, 1]⟩
abbrev S4096x3x128 : Shape := ⟨3, ![4096, 3, 128]⟩
abbrev S1x1 : Shape := ⟨2, ![1, 1]⟩
abbrev S4096x128 : Shape := ⟨2, ![4096, 128]⟩
abbrev S4096x384 : Shape := ⟨2, ![4096, 384]⟩
abbrev S4096x896 : Shape := ⟨2, ![4096, 896]⟩
abbrev S4096x1024 : Shape := ⟨2, ![4096, 1024]⟩
abbrev S1x1024 : Shape := ⟨2, ![1, 1024]⟩
abbrev S4096x45 : Shape := ⟨2, ![4096, 45]⟩
abbrev S1x45 : Shape := ⟨2, ![1, 45]⟩

abbrev nBuf : Space → Nat
  | .hbm => 108
  | .vmem => 0
  | .smem => 0
  | _ => 0

abbrev bufTy : (tb : Table) → Fin (tcTables nBuf tb) → BufTy
  | .hbm, ⟨0, _⟩ => ⟨S4096x7, .i32⟩
  | .hbm, ⟨1, _⟩ => ⟨S100000x128, .f32⟩
  | .hbm, ⟨2, _⟩ => ⟨S896x1024, .f32⟩
  | .hbm, ⟨3, _⟩ => ⟨S1024, .f32⟩
  | .hbm, ⟨4, _⟩ => ⟨S1024x45, .f32⟩
  | .hbm, ⟨5, _⟩ => ⟨S45, .f32⟩
  | .hbm, ⟨6, _⟩ => ⟨S4096x3, .i32⟩
  | .hbm, ⟨7, _⟩ => ⟨S4096x1, .i32⟩
  | .hbm, ⟨8, _⟩ => ⟨S4096, .i32⟩
  | .hbm, ⟨9, _⟩ => ⟨S4096x3, .i32⟩
  | .hbm, ⟨10, _⟩ => ⟨S_, .i32⟩
  | .hbm, ⟨11, _⟩ => ⟨S4096x3, .i32⟩
  | .hbm, ⟨12, _⟩ => ⟨S4096x3, .i1⟩
  | .hbm, ⟨13, _⟩ => ⟨S_, .i32⟩
  | .hbm, ⟨14, _⟩ => ⟨S4096x3, .i32⟩
  | .hbm, ⟨15, _⟩ => ⟨S4096x3, .i32⟩
  | .hbm, ⟨16, _⟩ => ⟨S4096x3, .i32⟩
  | .hbm, ⟨17, _⟩ => ⟨S4096x3x1, .i32⟩
  | .hbm, ⟨18, _⟩ => ⟨S1, .i32⟩
  | .hbm, ⟨19, _⟩ => ⟨S_, .i32⟩
  | .hbm, ⟨20, _⟩ => ⟨S4096x3x1, .i32⟩
  | .hbm, ⟨21, _⟩ => ⟨S4096x3x1, .i1⟩
  | .hbm, ⟨22, _⟩ => ⟨S1x1x1, .i32⟩
  | .hbm, ⟨23, _⟩ => ⟨S4096x3x1, .i32⟩
  | .hbm, ⟨24, _⟩ => ⟨S4096x3x1, .i1⟩
  | .hbm, ⟨25, _⟩ => ⟨S4096x3x1, .i1⟩
  | .hbm, ⟨26, _⟩ => ⟨S_, .i1⟩
  | .hbm, ⟨27, _⟩ => ⟨S4096x3, .i1⟩
  | .hbm, ⟨28, _⟩ => ⟨S4096x3x128, .f32⟩
  | .hbm, ⟨29, _⟩ => ⟨S4096x3x128, .i1⟩
  | .hbm, ⟨30, _⟩ => ⟨S_, .f32⟩
  | .hbm, ⟨31, _⟩ => ⟨S4096x3x128, .f32⟩
  | .hbm, ⟨32, _⟩ => ⟨S4096x3x128, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S1x1, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i1⟩
  | .hbm, ⟨50, _⟩ => ⟨S4096, .i1⟩
  | .hbm, ⟨51, _⟩ => ⟨S4096x128, .f32⟩
  | .hbm, ⟨52, _⟩ => ⟨S4096x128, .i1⟩
  | .hbm, ⟨53, _⟩ => ⟨S_, .f32⟩
  | .hbm, ⟨54, _⟩ => ⟨S4096x128, .f32⟩
  | .hbm, ⟨55, _⟩ => ⟨S4096x128, .f32⟩
  | .hbm, ⟨56, _⟩ => ⟨S_, .i32⟩
  | .hbm, ⟨57, _⟩ => ⟨S4096x3, .i32⟩
  | .hbm, ⟨58, _⟩ => ⟨S4096x3, .i1⟩
  | .hbm, ⟨59, _⟩ => ⟨S_, .i32⟩
  | .hbm, ⟨60, _⟩ => ⟨S4096x3, .i32⟩
  | .hbm, ⟨61, _⟩ => ⟨S4096x3, .i32⟩
  | .hbm, ⟨62, _⟩ => ⟨S4096x3, .i32⟩
  | .hbm, ⟨63, _⟩ => ⟨S4096x3x1, .i32⟩
  | .hbm, ⟨64, _⟩ => ⟨S1, .i32⟩
  | .hbm, ⟨65, _⟩ => ⟨S_, .i32⟩
  | .hbm, ⟨66, _⟩ => ⟨S4096x3x1, .i32⟩
  | .hbm, ⟨67, _⟩ => ⟨S4096x3x1, .i1⟩
  | .hbm, ⟨68, _⟩ => ⟨S1x1x1, .i32⟩
  | .hbm, ⟨69, _⟩ => ⟨S4096x3x1, .i32⟩
  | .hbm, ⟨70, _⟩ => ⟨S4096x3x1, .i1⟩
  | .hbm, ⟨71, _⟩ => ⟨S4096x3x1, .i1⟩
  | .hbm, ⟨72, _⟩ => ⟨S_, .i1⟩
  | .hbm, ⟨73, _⟩ => ⟨S4096x3, .i1⟩
  | .hbm, ⟨74, _⟩ => ⟨S4096x3x128, .f32⟩
  | .hbm, ⟨75, _⟩ => ⟨S4096x3x128, .i1⟩
  | .hbm, ⟨76, _⟩ => ⟨S_, .f32⟩
  | .hbm, ⟨77, _⟩ => ⟨S4096x3x128, .f32⟩
  | .hbm, ⟨78, _⟩ => ⟨S4096x3x128, .f32⟩
  | .hbm, ⟨79, _⟩ => ⟨S4096x384, .f32⟩
  | .hbm, ⟨80, _⟩ => ⟨S4096x384, .f32⟩
  | .hbm, ⟨81, _⟩ => ⟨S4096x896, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S4096x45, .f32⟩
  | .hbm, ⟨90, _⟩ => ⟨S1x45, .f32⟩
  | .hbm, ⟨91, _⟩ => ⟨S4096x45, .f32⟩
  | .hbm, ⟨92, _⟩ => ⟨S4096x45, .f32⟩
  | .hbm, ⟨93, _⟩ => ⟨S_, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S4096x1, .f32⟩
  | .hbm, ⟨99, _⟩ => ⟨S4096x45, .f32⟩
  | .hbm, ⟨100, _⟩ => ⟨S4096x45, .f32⟩
  | .hbm, ⟨101, _⟩ => ⟨S4096x45, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1, .f32⟩
  | .hbm, ⟨106, _⟩ => ⟨S4096x45, .f32⟩
  | .hbm, ⟨107, _⟩ => ⟨S4096x45, .f32⟩
  | _, _ => ⟨S4096x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_call3_cst : Ref sig .tc := ⟨.hbm, 86, rfl⟩
abbrev main_call3_v0 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_call4_cst : Ref sig .tc := ⟨.hbm, 93, rfl⟩
abbrev main_call4_v0 : Ref sig .tc := ⟨.hbm, 94, rfl⟩
abbrev main_call4_cst_0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_v6 : Ref sig .tc := ⟨.hbm, 101, rfl⟩
abbrev main_call4_cst_1 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_v19 : Ref sig .tc := ⟨.hbm, 107, rfl⟩

abbrev nD : Nat := 1
abbrev τ : Topo := Topo.v7x

variable {F : FTy → Type} [FloatOps F]
-- ==== Proof.GatherBatch.lean ====
/-
  SEVERAL INDIRECT GATHERS ON ONE SEMAPHORE.

  The kernel's tile issues seven indirect gathers on one semaphore before it waits for any of them. Each gather credits
  the semaphore one row at a time, so the rows of all the gathers together are a counted batch (`Transfers.Batch`) of as
  many transfers as there are rows, each of one row's credit. This file states the rule that issues the next gather
  into such a batch.
-/
module

public import Idealize.ShloMosaic.Lib.Batch
public import Idealize.ShloMosaic.Lib.SparseCore.Stream

@[expose] public section

noncomputable section

namespace GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- Two assertions, each entailing the other, are equal. -/
theorem eq_of_entails {P Q : sProp 𝕄} (h : P ⊢ Q) (h' : Q ⊢ P) : P = Q := BI.Entails.antisymm h h'

/-- The first `o` of the members still pending from `k`, taken off as a family of their own. -/
theorem pending_take {n : ℕ} (k : ℕ) : ∀ (o : ℕ) (hk : k + o ≤ n) (Φ : Fin n → sProp 𝕄),
    bigSep (Transfers.pending k) Φ
      = iprop((bigSep Finset.univ fun j : Fin o => Φ ⟨k + j.val, by omega⟩) ∗ bigSep (Transfers.pending (k + o)) Φ)
  | 0, _, Φ => by
    rw [show (Finset.univ : Finset (Fin 0)) = ∅ from rfl, BI.bigSep_empty]
    refine eq_of_entails ?_ ?_
    · iintro H; isplitr; · iempintro
      iexact H
    · iintro ⟨-, H⟩; iexact H
  | o + 1, hk, Φ => by
    rw [pending_take k o (by omega) Φ, Transfers.bigSep_pending_step Φ (k + o) (by omega)]
    have hlast : (bigSep Finset.univ fun j : Fin (o + 1) => Φ ⟨k + j.val, by omega⟩)
        = iprop((bigSep Finset.univ fun j : Fin o => Φ ⟨k + j.val, by omega⟩) ∗ Φ ⟨k + o, by omega⟩) := by
      rw [Fin.univ_castSuccEmb, Finset.cons_eq_insert, BI.bigSep_insert (by simp), BI.bigSep_map]
      change iprop(Φ ⟨k + o, by omega⟩ ∗ bigSep Finset.univ fun j : Fin o => Φ ⟨k + j.val, by omega⟩) = _
      refine eq_of_entails ?_ ?_
      · iintro ⟨H, H'⟩; isplitl [H'] <;> iassumption
      · iintro ⟨H, H'⟩; isplitl [H'] <;> iassumption
    rw [hlast]
    refine eq_of_entails ?_ ?_
    · iintro ⟨H, H', H''⟩; isplitl [H H']
      · isplitl [H] <;> iassumption
      · iexact H''
    · iintro ⟨⟨H, H'⟩, H''⟩; isplitl [H]; · iexact H
      isplitl [H'] <;> iassumption

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Issuing the next indirect gather of a batch. The batch `D` counts rows, each of `N` units, of which the first `k₀`
    are issued; the gather has `s.size hg.axis'` rows and becomes the batch's rows from `k₀` on. Each of those rows' own
    resources `R` give the row of the destination outright, the list's entry and a share of the source; and what the row
    leaves there — the destination's row written with the source's row that the entry names, the entry and the share
    back — gives the row's delivery `D`. The issuer goes on with the batch whose issued rows are those too, and with the
    resources of the rows not yet issued. -/
theorem wp_gather [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {fs : Buf (Elt F) (src.view.loc c)} {fd : Buf (Elt F) (dst.view.loc c)} {fo : Buf (Elt F) (offs.view.loc c)}
    (ι : Ix) {n : ℕ} (N : ℕ) (R D : Fin n → sProp 𝕄) (k₀ : ℕ) (hk : k₀ + s.size hg.axis' ≤ n)
    (hN : ∀ j, (dst.slice (s.rowRect hg.axis' j) (s.stride_rowRect hg.axis' j)).view.dmaCredit = N)
    (hin : ∀ x, (offs.view.read (Elt F) fo x).toNat < s₀.size hg.axis)
    (qk : Fin (s.size hg.axis') → PosShare TreeShare)
    (hR : ∀ j : Fin (s.size hg.axis'), R ⟨k₀ + j.val, by omega⟩
      ⊢ iprop(((dst.view.loc c ↦[(dst.view.slice (s.rowRect hg.axis' j)).set]{fullShare} fd)
          ∗ (offs.view.loc c ↦[{offs.view.emb (si.rowMajor.symm (j.cast hn.symm))}]{qo} fo)) ∗ (src.view.loc c ↦[src.view.set]{qk j} fs)))
    (hD : ∀ j : Fin (s.size hg.axis'),
      iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
          ∗ (offs.view.loc c ↦[{offs.view.emb (si.rowMajor.symm (j.cast hn.symm))}]{qo} fo)) ∗ (src.view.loc c ↦[src.view.set]{qk j} fs))
        ⊢ D ⟨k₀ + j.val, by omega⟩) :
    iprop(Transfers.Batch EC c (.dma sem) ι N D k₀ 0 ∗ bigSep (Transfers.pending k₀) R)
      ⊢ iprop((iprop(Transfers.Batch EC c (.dma sem) ι N D (k₀ + s.size hg.axis') 0 ∗ bigSep (Transfers.pending (k₀ + s.size hg.axis')) R)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem :=
    fun j => gatherRow c src dst hg sem hsrc he hsp hr j (rows (offs.view.read (Elt F) fo) hn hin j)
  -- a word names one row, and the words in hand name rows
  have hA : S.RowsAgree := fun j x x' ρ ρ' h h' => by
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  unfold Transfers.Batch
  iintro ⟨⟨%γ, %γ₀, %κ, #Hinv, HI, H0, Hcred⟩, HR⟩ Hk
  ihave HI' := (Entails.of_eq (pending_take k₀ (s.size hg.axis') hk (fun t => (count EC (γ t) 0 : sProp 𝕄)))) $$ HI
  icases HI' with ⟨Hc, HI⟩
  ihave HR' := (Entails.of_eq (pending_take k₀ (s.size hg.axis') hk R)) $$ HR
  icases HR' with ⟨Hr, HR⟩
  iapply (wp_enqueueIndirectDma 𝒱 c bd Set.univ (qo := qo) (fo := fo) (rd := rd) ι (s.size hg.axis' * N) hA hrd
    (sum_rowCredit_eq _ hN rfl)) $$ [Hc Hr]
  · have hrow : ∀ j : Fin (s.size hg.axis'), iprop(inv κ (Transfers.batchBody EC (c, SemLoc.dma sem) N D γ γ₀)
          ∗ (R ⟨k₀ + j.val, by omega⟩ ∗ count EC (γ ⟨k₀ + j.val, by omega⟩) 0))
        ⊢ iprop(S.heldEntry qo fo j ∗ (S.heldEntry qo fo j -∗ rowRes c (rd j))) := fun j => by
      iintro ⟨#Hinv, HRj, Hγj⟩
      ihave HRj' := hR j $$ HRj
      icases HRj' with ⟨⟨Hd, He⟩, Hs⟩
      isplitl [He]; · iexact He
      iintro He
      unfold rowRes
      iexists qk j, fs, iprop((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ)) ∗ S.heldEntry qo fo j)
      isplitl [Hs]; · iexact Hs
      isplitl [Hd He]
      · iapply writeUpdate_frame
        isplitl [Hd]
        · iapply (pointsTo_writeUpdate c (v := dst.view.slice (s.rowRect hg.axis' j)) subset_rfl) $$ Hd
        · iexact He
      · rw [show (rd j).dst.view.amount (SemLoc.dma sem) = N from hN j]
        iapply (Transfers.batch_creditUpdate EC (D := D) (γ := γ) (γ₀ := γ₀) (ι := κ) ⟨k₀ + j.val, by omega⟩ (hD j))
        isplitr; · iexact Hinv
        iexact Hγj
    unfold Stream.res
    ihave H1 := Transfers.bigSep_sep_in _ _ _ $$ [Hr Hc]; · isplitl [Hr] <;> iassumption
    iapply (Transfers.bigSep_mono_pers Finset.univ _ _ _ fun j _ => hrow j)
    isplitr; · iexact Hinv
    iexact H1
  iintro Hcred'
  iapply Hk
  isplitr [HR]
  · iexists γ, γ₀, κ
    isplitr; · iexact Hinv
    isplitl [HI]; · iexact HI
    isplitl [H0]; · iexact H0
    rw [show (k₀ + s.size hg.axis') * N - 0 = (k₀ * N - 0) + s.size hg.axis' * N by rw [Nat.add_mul]; omega, ← tallyAt_add]
    icombine Hcred Hcred' as H
    iexact H
  · iexact HR

end GatherBatch
-- ==== Proof.Common.lean ====
/-
  WHAT THE PROOF OF THE KERNEL'S RUN SHARES: the program as the launch theorem sees it, the resource algebra, the buffers,
  the pieces the thirty-two tasks hold, and what the gather leaves in its result.

  Everything is over any float operations, so that one run serves the program at machine floats and at ideal ones.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ViewIndex
public import Idealize.ShloMosaic.Lib.ValueIdxCoords
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

/-- The labels under the SparseCore's: the kernels' and the one pipeline's. -/
abbrev ΛP : Labels := Pipeline.Sig Λ₀ (Fin 1) fun p => (pcfgs (F := F) p).Adm
/-- The SparseCore calls of the program. -/
abbrev K : SparseCore.Cfg τ sig (ΛP (F := F)) 1 := sc (F := F)
theorem nSub_zero : (K (F := F)).nSub 0 = 16 := rfl
theorem nCore_zero : (K (F := F)).nCore 0 = 2 := rfl
/-- The definitions under the SparseCore's: the kernels' bodies and the pipeline's. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

/-- The index list as the tasks read it, the table, and the gathered rows. -/
abbrev iLoc (d : Dev nD) : Loc nD τ sig := (SparseCore.T d).loc main_v1
abbrev tLoc (d : Dev nD) : Loc nD τ sig := (SparseCore.T d).loc main_arg1
abbrev oLoc (d : Dev nD) : Loc nD τ sig := (SparseCore.T d).loc main_v2

local notation "iV" => (Memref.whole Cert.KernelIdeal.main_v1_scv : Memref Cert.KernelIdeal.sig Kind.scVector Space.hbm Cert.KernelIdeal.S32x7x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S28672x128 EltTy.f32)
local notation "sV" => (Memref.whole Cert.KernelIdeal.cc0_scratch0 : Memref Cert.KernelIdeal.sig Kind.scVector Space.vmem Cert.KernelIdeal.S7x128 EltTy.i32)
local notation "rV" => (Memref.whole Cert.KernelIdeal.cc0_scratch1 : Memref Cert.KernelIdeal.sig Kind.scVector Space.vmem Cert.KernelIdeal.S896x128 EltTy.f32)

/-! ## The pieces: block `w` of the index list and of the result, a thirty-second of the table -/

/-- The elements of block `w` of the index list. -/
def iSet (w : Fin 32) : Finset S32x7x128.Idx := Finset.univ.filter fun x => (x 0).val = w.val
/-- The elements of the 896 rows that block `w` of the indices names. -/
def oSet (w : Fin 32) : Finset S28672x128.Idx := Finset.univ.filter fun x => (x 0).val / 896 = w.val
/-- Task `w`'s share of the table. -/
abbrev tq (w : Fin 32) : PosShare TreeShare := pieceOf fullShare 32 (by decide) w

/-- The number of the task on core `c`, subcore `i`. -/
abbrev wid (c : Fin 2) (i : Fin 16) : Fin 32 := ⟨2 * i.val + c.val, by omega⟩

/-- The tasks are numbered by core and subcore. -/
def widEquiv : Fin 2 × Fin 16 ≃ Fin 32 where
  toFun p := wid p.1 p.2
  invFun w := (⟨w.val % 2, by omega⟩, ⟨w.val / 2, by omega⟩)
  left_inv p := Prod.ext (Fin.ext (by simp; omega)) (Fin.ext (by simp; omega))
  right_inv w := Fin.ext (by simp; omega)

/-! ## What the gather computes -/

/-- The row of the table a word names. -/
def rowNo (w : BitVec 32) : Fin 100000 := ⟨w.toNat % 100000, Nat.mod_lt _ (by decide)⟩

/-- The gathered rows: row `n` is the table's row that the index list names at place `n`, the list being read block by
    block, row by row. -/
def gathered (x : S32x7x128.Idx → BitVec 32) (t : S100000x128.Idx → Elt F .f32) : S28672x128.Idx → Elt F .f32 := fun j =>
  t (ix2 (rowNo (x (ix3 (n0 := 32) (n1 := 7) (n2 := 128) ⟨(j 0).val / 896, by have : (j 0).val < 28672 := (j 0).isLt; omega⟩
    ⟨(j 0).val % 896 / 128, by omega⟩ ⟨(j 0).val % 128, by omega⟩))) (j 1))

/-! ## What the handshakes carry -/

variable (m : (ℓ : Loc nD τ sig) → Buf (Elt F) ℓ) (X : (d : Dev nD) → Buf (Elt F) (iLoc d))

/-- What task `w` is given: its block of the index list, its share of the table, its block of the result. -/
abbrev goW (d : Dev nD) (w : Fin 32) : sProp 𝕄 :=
  iprop((iLoc d ↦[iSet w]{fullShare} X d) ∗ (tLoc d ↦{tq w} m (tLoc d)) ∗ (oLoc d ↦[oSet w]{fullShare} m (oLoc d)))
/-- What it gives back: the same, its block of the result holding the gathered rows. -/
abbrev tdW (d : Dev nD) (w : Fin 32) : sProp 𝕄 :=
  iprop((iLoc d ↦[iSet w]{fullShare} X d) ∗ (tLoc d ↦{tq w} m (tLoc d)) ∗ (oLoc d ↦[oSet w]{fullShare} gathered (X d) (m (tLoc d))))

/-- The one call's payloads: each core takes its sixteen tasks' pieces and brings them back. -/
def P : (K (F := F)).Pay (nD := nD) (Val := Elt F) (Name := ℕ) (U := UU) where
  st := fun q d c => match q with | 0 => bigSep Finset.univ fun i : Fin 16 => goW m X d (wid (Fin.cast nCore_zero c) i)
  dn := fun q d c => match q with | 0 => bigSep Finset.univ fun i : Fin 16 => tdW m X d (wid (Fin.cast nCore_zero c) i)
  go := fun q d c i => match q with | 0 => goW m X d (wid (Fin.cast nCore_zero c) (Fin.cast nSub_zero i))
  td := fun q d c i => match q with | 0 => tdW m X d (wid (Fin.cast nCore_zero c) (Fin.cast nSub_zero i))
  x := fun _ _ => iprop(emp)

instance P_storable : (P m X).IsStorable where
  st q d c := match q with
    | 0 => (inferInstance : BI.Storable (upEmb : UEmb _ 𝕄) (bigSep Finset.univ fun i : Fin 16 => goW m X d (wid (Fin.cast nCore_zero c) i)))
  dn q d c := match q with
    | 0 => (inferInstance : BI.Storable (upEmb : UEmb _ 𝕄) (bigSep Finset.univ fun i : Fin 16 => tdW m X d (wid (Fin.cast nCore_zero c) i)))
  go q d c i := match q with
    | 0 => (inferInstance : BI.Storable (upEmb : UEmb _ 𝕄) (goW m X d (wid (Fin.cast nCore_zero c) (Fin.cast nSub_zero i))))
  td q d c i := match q with
    | 0 => (inferInstance : BI.Storable (upEmb : UEmb _ 𝕄) (tdW m X d (wid (Fin.cast nCore_zero c) (Fin.cast nSub_zero i))))

/-- What the run asks of the index list: every word of it names a row of the table. -/
def InRange : Prop := ∀ (d : Dev nD) (j : S32x7x128.Idx), (show BitVec 32 from X d j).toNat < 100000

end Cert.Proof.K

end
-- ==== Proof.MlpBody.lean ====
/-
  THE TENSORCORE KERNEL'S BODY at one grid point, over symbolic staging buffers: the first point stores the rounded
  first-layer weights in the scratch buffer, every point reads them there; the result's staging buffer is left at the
  point's block of log-probabilities, a pure function of the blocks staged.
-/
module

public import proofs.«01_k».proof.Proof.Common
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import Idealize.ShloMosaic.Lib.Pipeline.ValueKit
public import Idealize.ShloMosaic.Lib.Tactic

@[expose] public section

set_option maxRecDepth 16384

noncomputable section

namespace Cert.Proof.K

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Two and three zero offsets, as a constant function. -/
theorem zeros2 : (![0, 0] : Fin 2 → Nat) = fun _ => 0 := by funext a; fin_cases a <;> rfl
theorem zeros3 : (![0, 0, 0] : Fin 3 → Nat) = fun _ => 0 := by funext a; fin_cases a <;> rfl

/-- The `k`-th of the seven slabs of a staged block of gathered rows, as the body loads it. -/
def slabX (x : S7x512x128.Idx → Elt F .f32) (k : Nat) (h : ∀ a, (![k, 0, 0] : Fin 3 → Nat) a + S1x512x128.size a ≤ S7x512x128.size a) :
    Vec F S1x512x128 .f32 :=
  View.ld x (Rect.unit (s := S7x512x128) ![k, 0, 0] S1x512x128.size h)
/-- The `k`-th of the seven slabs of the rounded weights, as the body loads it. -/
def slabW (w : S7x128x1024.Idx → Elt F .bf16) (k : Nat) (h : ∀ a, (![k, 0, 0] : Fin 3 → Nat) a + S1x128x1024.size a ≤ S7x128x1024.size a) :
    Vec F S1x128x1024 .bf16 :=
  View.ld w (Rect.unit (s := S7x128x1024) ![k, 0, 0] S1x128x1024.size h)

/-- The block of log-probabilities the body computes of its staged blocks, the rounded weights at `w`. -/
def blockOut (x : S7x512x128.Idx → Elt F .f32) (w : S7x128x1024.Idx → Elt F .bf16) (b1 : S1x1024.Idx → Elt F .f32)
    (w2 : S1024x45.Idx → Elt F .f32) (b2 : S1x45.Idx → Elt F .f32) : S512x45.Idx → Elt F .f32 :=
  k1_pay1
    (k1_pay6
      (k1_pay3 (slabX x 0 inb_S7x512x128_S1x512x128_0_0_0) (slabW w 0 inb_S7x128x1024_S1x128x1024_0_0_0)
        (slabX x 1 inb_S7x512x128_S1x512x128_1_0_0) (slabW w 1 inb_S7x128x1024_S1x128x1024_1_0_0)
        (slabX x 2 inb_S7x512x128_S1x512x128_2_0_0) (slabW w 2 inb_S7x128x1024_S1x128x1024_2_0_0))
      (k1_pay4 (slabX x 3 inb_S7x512x128_S1x512x128_3_0_0)) (k1_pay5 (slabW w 3 inb_S7x128x1024_S1x128x1024_3_0_0))
      (constant S512x1024 .f32 0x00000000#32)
      (slabX x 4 inb_S7x512x128_S1x512x128_4_0_0) (slabW w 4 inb_S7x128x1024_S1x128x1024_4_0_0)
      (slabX x 5 inb_S7x512x128_S1x512x128_5_0_0) (slabW w 5 inb_S7x128x1024_S1x128x1024_5_0_0)
      (slabX x 6 inb_S7x512x128_S1x512x128_6_0_0) (slabW w 6 inb_S7x128x1024_S1x128x1024_6_0_0)
      (View.ld b1 (Rect.unit (s := S1x1024) ![0, 0] S1x1024.size inb_S1x1024_S1x1024_0_0))
      (View.ld w2 (Rect.unit (s := S1024x45) ![0, 0] S1024x45.size inb_S1024x45_S1024x45_0_0)))
    (View.ld b2 (Rect.unit (s := S1x45) ![0, 0] S1x45.size inb_S1x45_S1x45_0_0))

/-- The body's test of the first point, as the program writes it. -/
abbrev isFirst (i : grid1.Coords) : BitVec 1 :=
  Scalar.cmpi .ne (Scalar.extui (Scalar.cmpi .eq (BitVec.ofNat 32 (i 0).val) 0#32) : BitVec 32) 0#32

/-- A buffer stored whole reads as what was stored. -/
theorem read_stored (M : Memref sig .tc .vmem S512x45 .f32) (f : M.view.ty.Contents (Elt F)) (v : S512x45.Idx → Elt F .f32) :
    M.view.read (Elt F) (M.view.writes (Elt F) f [⟨Rect.unit (s := S512x45) ![0, 0] S512x45.size inb_S512x45_S512x45_0_0, v⟩]) = v :=
  (View.read_writes_eq_canon _ _ _ fun y =>
    ⟨_, List.mem_singleton_self _, View.mem_set_unit_zero zeros2 inb_S512x45_S512x45_0_0 y⟩).trans (View.canon_unit_zero zeros2 _ _)

/-- A slab read back after stores that cover the weights' buffer is the slab of what they leave. -/
theorem slab_covered (M : Memref sig .tc .vmem S7x128x1024 .bf16) (L : List (View.Piece (Elt F) S7x128x1024 .bf16))
    (w : S7x128x1024.Idx → Elt F .bf16) (hL : ∀ y, ∃ p ∈ L, y ∈ p.1.set) (hC : View.canon L = w) (k : Nat)
    (h : ∀ a, (![k, 0, 0] : Fin 3 → Nat) a + S1x128x1024.size a ≤ S7x128x1024.size a) :
    M.view.readCov L (Rect.unit (s := S7x128x1024) ![k, 0, 0] S1x128x1024.size h).toLoadRect = slabW w k h := by
  subst hC
  exact View.readCov_eq_canon_ld M.view L (Rect.unit (s := S7x128x1024) ![k, 0, 0] S1x128x1024.size h) hL

/-- At a point that is not the first, the scratch buffer read as `w`: the body leaves the result's staging buffer at
    the block computed of the blocks staged, and everything else as it was. -/
theorem body_later (c : Dev nD) (i : grid1.Coords) (hi : isFirst i ≠ 1#1)
    (M0 : Memref sig .tc .vmem S7x512x128 .f32) (h0 : M0.IsWhole) (M1 : Memref sig .tc .vmem S7x128x1024 .f32) (h1 : M1.IsWhole)
    (M2 : Memref sig .tc .vmem S1x1024 .f32) (h2 : M2.IsWhole) (M3 : Memref sig .tc .vmem S1024x45 .f32) (h3 : M3.IsWhole)
    (M4 : Memref sig .tc .vmem S1x45 .f32) (h4 : M4.IsWhole) (M5 : Memref sig .tc .vmem S512x45 .f32) (h5 : M5.IsWhole)
    (M6 : Memref sig .tc .vmem S7x128x1024 .bf16) (h6 : M6.IsWhole)
    (x : S7x512x128.Idx → Elt F .f32) (w1 : S7x128x1024.Idx → Elt F .f32) (b1 : S1x1024.Idx → Elt F .f32)
    (w2 : S1024x45.Idx → Elt F .f32) (b2 : S1x45.Idx → Elt F .f32) (o : S512x45.Idx → Elt F .f32) (w : S7x128x1024.Idx → Elt F .bf16)
    (E : Set ℕ) (Q : PUnit → sProp 𝕄) :
    iprop(owns c M0 fullShare x ∗ owns c M1 fullShare w1 ∗ owns c M2 fullShare b1 ∗ owns c M3 fullShare w2 ∗ owns c M4 fullShare b2
        ∗ owns c M5 fullShare o ∗ owns c M6 fullShare w
        ∗ (iprop(owns c M0 fullShare x ∗ owns c M1 fullShare w1 ∗ owns c M2 fullShare b1 ∗ owns c M3 fullShare w2 ∗ owns c M4 fullShare b2
            ∗ owns c M5 fullShare (blockOut x w b1 w2 b2) ∗ owns c M6 fullShare w) -∗ Q ⟨⟩))
      ⊢ wp frame (wpE (defs₀ (F := F)) Variants.none c none) E (cc1__mlp_body i M0 h0 M1 h1 M2 h2 M3 h3 M4 h4 M5 h5 M6 h6) Q := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
  rw [cc1__mlp_body_eq_skeleton]
  unfold cc1__mlp_body_skel
  rw [k1_part1_eq_skeleton, k1_part2_eq_skeleton]
  unfold k1_part1_skel k1_part2_skel
  rw [dif_neg hi]
  sl_exec
  sl_step
  iapply Hk
  subst e0 e1 e2 e3 e4 e6
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _
    isplitr; swap; · iexact H5
    ipureintro
    refine (read_stored M5 f5 _).trans ?_
    rfl
  iexists f6; isplitr; · ipureintro; rfl
  iexact H6

/-- The rounded weights the first point stores, of the weights staged. -/
def rounded (w1 : S7x128x1024.Idx → Elt F .f32) : S7x128x1024.Idx → Elt F .bf16 :=
  k1_pay2 (View.ld w1 (Rect.unit (s := S7x128x1024) ![0, 0, 0] S7x128x1024.size inb_S7x128x1024_S7x128x1024_0_0_0))

/-- At the first point, whatever the scratch buffer holds: the body leaves the rounded weights in the scratch buffer, and leaves the result's staging buffer at
    the block computed of the blocks staged, and everything else as it was. -/
theorem body_first (c : Dev nD) (i : grid1.Coords) (hi : isFirst i = 1#1)
    (M0 : Memref sig .tc .vmem S7x512x128 .f32) (h0 : M0.IsWhole) (M1 : Memref sig .tc .vmem S7x128x1024 .f32) (h1 : M1.IsWhole)
    (M2 : Memref sig .tc .vmem S1x1024 .f32) (h2 : M2.IsWhole) (M3 : Memref sig .tc .vmem S1024x45 .f32) (h3 : M3.IsWhole)
    (M4 : Memref sig .tc .vmem S1x45 .f32) (h4 : M4.IsWhole) (M5 : Memref sig .tc .vmem S512x45 .f32) (h5 : M5.IsWhole)
    (M6 : Memref sig .tc .vmem S7x128x1024 .bf16) (h6 : M6.IsWhole)
    (x : S7x512x128.Idx → Elt F .f32) (w1 : S7x128x1024.Idx → Elt F .f32) (b1 : S1x1024.Idx → Elt F .f32)
    (w2 : S1024x45.Idx → Elt F .f32) (b2 : S1x45.Idx → Elt F .f32) (o : S512x45.Idx → Elt F .f32) (w : S7x128x1024.Idx → Elt F .bf16)
    (E : Set ℕ) (Q : PUnit → sProp 𝕄) :
    iprop(owns c M0 fullShare x ∗ owns c M1 fullShare w1 ∗ owns c M2 fullShare b1 ∗ owns c M3 fullShare w2 ∗ owns c M4 fullShare b2
        ∗ owns c M5 fullShare o ∗ owns c M6 fullShare w
        ∗ (iprop(owns c M0 fullShare x ∗ owns c M1 fullShare w1 ∗ owns c M2 fullShare b1 ∗ owns c M3 fullShare w2 ∗ owns c M4 fullShare b2
            ∗ owns c M5 fullShare (blockOut x (rounded w1) b1 w2 b2) ∗ owns c M6 fullShare (rounded w1)) -∗ Q ⟨⟩))
      ⊢ wp frame (wpE (defs₀ (F := F)) Variants.none c none) E (cc1__mlp_body i M0 h0 M1 h1 M2 h2 M3 h3 M4 h4 M5 h5 M6 h6) Q := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
  rw [cc1__mlp_body_eq_skeleton]
  unfold cc1__mlp_body_skel
  rw [k1_part1_eq_skeleton, k1_part2_eq_skeleton]
  unfold k1_part1_skel k1_part2_skel
  rw [dif_pos hi]
  sl_exec
  sl_step
  iapply Hk
  subst e0 e1 e2 e3 e4 e6
  -- what the first point stored, read back a slab at a time
  have hL : ∀ y, ∃ p ∈ body_first.sl.H6_1 c M1 f1, y ∈ p.1.set := fun y =>
    ⟨_, List.mem_singleton_self _, View.mem_set_unit_zero zeros3 inb_S7x128x1024_S7x128x1024_0_0_0 y⟩
  have hC : View.canon (body_first.sl.H6_1 c M1 f1) = rounded (M1.view.read (Elt F) f1) :=
    View.canon_unit_zero zeros3 _ _
  have slab : ∀ k h, M6.view.readCov (body_first.sl.H6_1 c M1 f1) (Rect.unit (s := S7x128x1024) ![k, 0, 0] S1x128x1024.size h).toLoadRect
      = slabW (rounded (M1.view.read (Elt F) f1)) k h := slab_covered M6 _ _ hL hC
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _
    isplitr; swap; · iexact H5
    ipureintro
    refine (read_stored M5 f5 _).trans ?_
    unfold body_first.sl.v6 body_first.sl.v12 body_first.sl.v19 body_first.sl.v26 body_first.sl.v33 body_first.sl.v40 body_first.sl.v47
    simp only [slab]
    rfl
  iexists _; isplitr; swap; · iexact H6
  ipureintro
  exact (View.read_writes_eq_canon _ _ _ hL).trans hC

end Cert.Proof.K

end
-- ==== Proof.Spec.lean ====
/-
  THE VALUE OVER THE EXTENDED REALS, entry by entry: seven gathered rows against seven slabs of the weights, the rectifier, the
  logits, and the log-probabilities, which the kernel and the reference bracket differently. Of real numbers the two bracketings
  are equal.
-/
module

public import Idealize.ShloMosaic.PureOps
public import Idealize.ShloMosaic.Lib.Pointwise

@[expose] public section

noncomputable section

namespace Cert.Proof.Spec

open Idealize.ShloMosaic

/-! ## The value -/

/-- An entry of the hidden layer: seven rows `g` against seven slabs `w`, the bias, the rectifier. -/
def hidden (g : Fin 7 → Fin 128 → EReal) (w : Fin 7 → Fin 128 → Fin 1024 → EReal) (b : Fin 1024 → EReal) (h : Fin 1024) : EReal :=
  max (∑ k : Fin 7, ∑ l : Fin 128, g k l * w k l h + b h) 0

/-- A logit: the hidden layer against the second weights, and its bias. -/
def logit (g : Fin 7 → Fin 128 → EReal) (w : Fin 7 → Fin 128 → Fin 1024 → EReal) (b : Fin 1024 → EReal)
    (w2 : Fin 1024 → Fin 45 → EReal) (b2 : Fin 45 → EReal) (c : Fin 45) : EReal :=
  ∑ h : Fin 1024, hidden g w b h * w2 h c + b2 c

/-- The logits as a function. -/
theorem logit_fun (g : Fin 7 → Fin 128 → EReal) (w : Fin 7 → Fin 128 → Fin 1024 → EReal) (b : Fin 1024 → EReal)
    (w2 : Fin 1024 → Fin 45 → EReal) (b2 : Fin 45 → EReal) :
    logit g w b w2 b2 = fun c => ∑ h : Fin 1024, hidden g w b h * w2 h c + b2 c := rfl

/-- Equal rows, weights and biases give equal logits. -/
theorem logit_congr {g g' : Fin 7 → Fin 128 → EReal} {w w' : Fin 7 → Fin 128 → Fin 1024 → EReal} {b b' : Fin 1024 → EReal}
    {w2 w2' : Fin 1024 → Fin 45 → EReal} {b2 b2' : Fin 45 → EReal} (hg : ∀ k l, g k l = g' k l) (hw : ∀ k l h, w k l h = w' k l h)
    (hb : ∀ h, b h = b' h) (hw2 : ∀ h c, w2 h c = w2' h c) (hb2 : ∀ c, b2 c = b2' c) : logit g w b w2 b2 = logit g' w' b' w2' b2' := by
  obtain rfl : g = g' := funext fun k => funext fun l => hg k l
  obtain rfl : w = w' := funext fun k => funext fun l => funext fun h => hw k l h
  obtain rfl : b = b' := funext hb
  obtain rfl : w2 = w2' := funext fun h => funext fun c => hw2 h c
  obtain rfl : b2 = b2' := funext hb2
  rfl

/-- The greatest logit. -/
def peak (lg : Fin 45 → EReal) : EReal := Finset.univ.fold max (Ideal.ofBits .f32 0xFF800000#32) lg
/-- The sum of the exponentials, the greatest logit taken off each. -/
def mass (lg : Fin 45 → EReal) : EReal := ∑ i : Fin 45, Ideal.exp (lg i - peak lg)
/-- A log-probability as the kernel brackets it. -/
def logProbK (lg : Fin 45 → EReal) (c : Fin 45) : EReal := lg c - (Ideal.log (mass lg) + peak lg)
/-- A log-probability as the reference brackets it. -/
def logProbR (lg : Fin 45 → EReal) (c : Fin 45) : EReal := lg c - peak lg - Ideal.log (mass lg)

/-! ## Real numbers -/

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.max {x y : EReal} (hx : IsReal x) (hy : IsReal y) : IsReal (max x y) := by
  rcases max_choice x y with h | h
  · rw [h]; exact hx
  · rw [h]; exact hy
theorem IsReal.sum {n : ℕ} {f : Fin n → EReal} (h : ∀ i, IsReal (f i)) : IsReal (∑ i, f i) := by
  choose r hr using h
  exact ⟨∑ i, r i, by simp only [hr]; exact (map_sum (⟨⟨Real.toEReal, EReal.coe_zero⟩, EReal.coe_add⟩ : ℝ →+ EReal) r Finset.univ).symm⟩

/-- The logits of real rows, weights and biases are real. -/
theorem logit_real {g : Fin 7 → Fin 128 → EReal} {w : Fin 7 → Fin 128 → Fin 1024 → EReal} {b : Fin 1024 → EReal}
    {w2 : Fin 1024 → Fin 45 → EReal} {b2 : Fin 45 → EReal} (hg : ∀ k l, IsReal (g k l)) (hw : ∀ k l h, IsReal (w k l h))
    (hb : ∀ h, IsReal (b h)) (hw2 : ∀ h c, IsReal (w2 h c)) (hb2 : ∀ c, IsReal (b2 c)) (c : Fin 45) : IsReal (logit g w b w2 b2 c) :=
  (IsReal.sum fun h => (((IsReal.sum fun k => IsReal.sum fun l => (hg k l).mul (hw k l h)).add (hb h)).max ⟨0, EReal.coe_zero.symm⟩).mul (hw2 h c)).add (hb2 c)

/-! ## The two bracketings -/

theorem negInf : Ideal.ofBits .f32 0xFF800000#32 = ⊥ := by simp [Ideal.ofBits, Ideal.ieee]

/-- Taking the maximum with the start of the maximum's fold changes nothing. -/
theorem max_peak (lg : Fin 45 → EReal) : max (Ideal.ofBits .f32 0xFF800000#32) (peak lg) = peak lg :=
  max_eq_right ((Finset.le_fold_max _).2 (Or.inl le_rfl))

theorem peak_real {lg : Fin 45 → EReal} (h : ∀ i, IsReal (lg i)) : IsReal (peak lg) := by
  have hb : ⊥ < peak lg := (Finset.lt_fold_max _).2 (Or.inr ⟨0, Finset.mem_univ _, by obtain ⟨r, hr⟩ := h 0; rw [hr]; exact EReal.bot_lt_coe r⟩)
  have ht : peak lg < ⊤ := (Finset.fold_max_lt _).2 ⟨by rw [negInf]; exact bot_lt_top, fun i _ => by obtain ⟨r, hr⟩ := h i; rw [hr]; exact EReal.coe_lt_top r⟩
  exact ⟨(peak lg).toReal, (EReal.coe_toReal ht.ne hb.ne').symm⟩

/-- The sum of exponentials of real logits is a positive real. -/
theorem mass_real {lg : Fin 45 → EReal} (h : ∀ i, IsReal (lg i)) : ∃ r : ℝ, 0 < r ∧ mass lg = r := by
  obtain ⟨p, hp⟩ := peak_real h
  choose r hr using h
  refine ⟨∑ i, Real.exp (r i - p), Finset.sum_pos (fun i _ => Real.exp_pos _) ⟨0, Finset.mem_univ _⟩, ?_⟩
  unfold mass
  rw [hp]
  refine Eq.trans (Finset.sum_congr rfl fun i _ => ?_) (map_sum (⟨⟨Real.toEReal, EReal.coe_zero⟩, EReal.coe_add⟩ : ℝ →+ EReal) (fun i => Real.exp (r i - p)) Finset.univ).symm
  rw [hr i, ← EReal.coe_sub]
  rfl

/-- Of real logits, the two bracketings of a log-probability are equal. -/
theorem logProb_eq {lg : Fin 45 → EReal} (h : ∀ i, IsReal (lg i)) (c : Fin 45) : logProbR lg c = logProbK lg c := by
  obtain ⟨p, hp⟩ := peak_real h
  obtain ⟨s, hs, hm⟩ := mass_real h
  obtain ⟨a, ha⟩ := h c
  have hl : Ideal.log (s : EReal) = (Real.log s : ℝ) := by
    show (if s ≤ 0 then (⊥ : EReal) else (Real.log s : EReal)) = _
    rw [if_neg (not_le.2 hs)]
  unfold logProbR logProbK
  rw [hm, hl, hp, ha, ← EReal.coe_sub, ← EReal.coe_sub, ← EReal.coe_add, ← EReal.coe_sub]
  exact congrArg _ (by ring)

end Cert.Proof.Spec

end
-- ==== Proof.Block.lean ====
/-
  A BLOCK OF THE PIPELINE OVER THE EXTENDED REALS, entry by entry.
-/
module

public import proofs.«01_k».proof.Proof.MlpBody
public import proofs.«01_k».proof.Proof.Spec
public import Idealize.ShloMosaic.Lib.Pointwise

@[expose] public section

set_option maxRecDepth 16384

noncomputable section

namespace Cert.Proof.K

open Cert.KernelIdeal Cert.KernelIdeal.Gen

open Idealize.ShloMosaic

/-- Over the extended reals the rounding of the weights changes nothing. -/
theorem rounded_apply (w : FVec Ideal S7x128x1024 .f32) (k : Fin 7) (l : Fin 128) (h : Fin 1024) : rounded (F := Ideal) w (ix3 k l h) = w (ix3 k l h) := by
  pointwise [rounded, k1_pay2]

/-- An entry of a block: the log-probability of the row's logits. -/
theorem block_apply (x : FVec Ideal S7x512x128 .f32) (w : FVec Ideal S7x128x1024 .bf16) (b1 : FVec Ideal S1x1024 .f32)
    (w2 : FVec Ideal S1024x45 .f32) (b2 : FVec Ideal S1x45 .f32) (r : Fin 512) (c : Fin 45) :
    blockOut (F := Ideal) x w b1 w2 b2 (ix2 r c)
      = Spec.logProbK (Spec.logit (fun k l => x (ix3 k r l)) (fun k l h => w (ix3 k l h)) (fun h => b1 (ix2 0 h)) (fun h c => w2 (ix2 h c)) (fun c => b2 (ix2 0 c))) c := by
  pointwise [blockOut, k1_pay1, k1_pay3, k1_pay4, k1_pay5, k1_pay6, slabX, slabW]
  simp only [Spec.logProbK, Spec.mass, Spec.peak, Spec.logit_fun, Spec.hidden, Fin.sum_univ_seven]

end Cert.Proof.K

end
-- ==== Proof.MlpRegion.lean ====
/-
  THE TENSORCORE PIPELINE over its eight points: the proof data (what each staging buffer holds after each point, the
  scratch buffer carrying the rounded weights from the first point on), the body obligation at every point, the result
  array after the last write-back, and the region over every unscoped buffer of the core at a valuation.
-/
module

public import proofs.«01_k».proof.Proof.MlpBody
public import Idealize.ShloMosaic.Lib.Pipeline.RegionsLoop

@[expose] public section

set_option maxRecDepth 16384

noncomputable section

namespace Cert.Proof.K

open Cert.KernelIdeal Cert.KernelIdeal.Gen

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (V : (c : Dev nD) → (b : Ref sig .tc) → Buf (Elt F) ((c : Thread nD τ).loc b)) (B : ℕ)

/-! ## The staged blocks and what the body leaves -/

/-- The block of window `w`'s array at point `t`. -/
abbrev blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rounded weights the scratch buffer carries from the first point on. -/
def scr (c : Dev nD) : S7x128x1024.Idx → Elt F .bf16 := rounded (blkAt V c 1 t1_0)

/-- The block of the result at point `t`. -/
def outAt (c : Dev nD) (t : Fin cfg1.N) : S512x45.Idx → Elt F .f32 :=
  blockOut (blkAt V c 0 t) (scr V c) (blkAt V c 2 t) (blkAt V c 3 t) (blkAt V c 4 t)

/-- The invariant between points: before the first, the scratch buffer at anything; after it, at the rounded weights. -/
def Φat (c : Dev nD) (n : ℕ) : sProp 𝕄 :=
  if n = 0 then iprop(∃ f : Buf (Elt F) ((c : Thread nD τ).loc cc1_scratch0), ((c : Thread nD τ).loc cc1_scratch0) ↦{fullShare} f)
  else ((c : Thread nD τ).loc cc1_scratch0) ↦{fullShare} (scr V c : Buf (Elt F) ((c : Thread nD τ).loc cc1_scratch0))

theorem Φat_zero (c : Dev nD) {n : ℕ} (h : n = 0) : Φat V c n
    = iprop(∃ f : Buf (Elt F) ((c : Thread nD τ).loc cc1_scratch0), ((c : Thread nD τ).loc cc1_scratch0) ↦{fullShare} f) := if_pos h
theorem Φat_later (c : Dev nD) {n : ℕ} (h : n ≠ 0) : Φat V c n
    = (((c : Thread nD τ).loc cc1_scratch0) ↦{fullShare} (scr V c : Buf (Elt F) ((c : Thread nD τ).loc cc1_scratch0)) : sProp 𝕄) := if_neg h

/-- The proof data: the arrays at the valuation; the inputs' buffers left as staged and the result's at the point's
    block; the scratch buffer's invariant; nothing owed, the waits recorded at most at level `B`. -/
def dat (c : Dev nD) : Dat τ (Elt F) (HIx 1) ℕ UU ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => outAt V c t
  Φ t := Φat V c t.val
  q _ := fullShare
  owed _ := 0
  recorded _ := {p | (K (F := F)).lev (nD := nD) ((c : Thread nD τ), p.1) p.2 ≤ B}

theorem before_0 (c : Dev nD) (t : Fin cfg1.N) (d : (cfg1.win 0).block.Idx → Elt F (cfg1.win 0).elt) : (dat V B c).before 0 t d = blkAt V c 0 t :=
  (dat V B c).before_in_eq_fetched 0 rfl (fun _ => rfl) (fun _ _ _ => rfl) (fun _ => rfl) t d
theorem before_1 (c : Dev nD) (t : Fin cfg1.N) (d : (cfg1.win 1).block.Idx → Elt F (cfg1.win 1).elt) : (dat V B c).before 1 t d = blkAt V c 1 t :=
  (dat V B c).before_in_eq_fetched 1 rfl (fun _ => rfl) (fun _ _ _ => rfl) (fun _ => rfl) t d
theorem before_2 (c : Dev nD) (t : Fin cfg1.N) (d : (cfg1.win 2).block.Idx → Elt F (cfg1.win 2).elt) : (dat V B c).before 2 t d = blkAt V c 2 t :=
  (dat V B c).before_in_eq_fetched 2 rfl (fun _ => rfl) (fun _ _ _ => rfl) (fun _ => rfl) t d
theorem before_3 (c : Dev nD) (t : Fin cfg1.N) (d : (cfg1.win 3).block.Idx → Elt F (cfg1.win 3).elt) : (dat V B c).before 3 t d = blkAt V c 3 t :=
  (dat V B c).before_in_eq_fetched 3 rfl (fun _ => rfl) (fun _ _ _ => rfl) (fun _ => rfl) t d
theorem before_4 (c : Dev nD) (t : Fin cfg1.N) (d : (cfg1.win 4).block.Idx → Elt F (cfg1.win 4).elt) : (dat V B c).before 4 t d = blkAt V c 4 t :=
  (dat V B c).before_in_eq_fetched 4 rfl (fun _ => rfl) (fun _ _ _ => rfl) (fun _ => rfl) t d

/-- The body takes the first point for the first, and no other. -/
theorem isFirst_iff : ∀ t : Fin cfg1.N, isFirst (cfg1.grid.coords t) = 1#1 ↔ t.val = 0 := by decide

/-- The library's body obligation, at every point: the first by `body_first`, the others by `body_later`. -/
theorem body_obligation (c : Dev nD) : BodyObligation (dat V B c) (defs₀ (F := F)) 𝒱₀ none Set.univ := fun t => by
  rw [bigSep_W1, bigSep_W1]
  rw [show (dat V B c).owesAt none t.succ = (dat V B c).owesAt none t.castSucc from rfl]
  show iprop(Φat V c t.val ∗ _ ∗ _) ⊢ wp frame _ Set.univ (bodyAt1 t) fun _ => iprop(Φat V c (t.val + 1) ∗ _ ∗ _)
  iintro ⟨HΦ, Howes, ⟨%d0, H0⟩, ⟨%d1, H1⟩, ⟨%d2, H2⟩, ⟨%d3, H3⟩, ⟨%d4, H4⟩, ⟨%d5, H5⟩⟩
  ihave H0 := (Entails.of_eq (congrArg (fun z => owns (c : Thread nD τ) (st1_0 t) fullShare z) (before_0 V B c t d0))) $$ H0
  ihave H1 := (Entails.of_eq (congrArg (fun z => owns (c : Thread nD τ) (st1_1 t) fullShare z) (before_1 V B c t d1))) $$ H1
  ihave H2 := (Entails.of_eq (congrArg (fun z => owns (c : Thread nD τ) (st1_2 t) fullShare z) (before_2 V B c t d2))) $$ H2
  ihave H3 := (Entails.of_eq (congrArg (fun z => owns (c : Thread nD τ) (st1_3 t) fullShare z) (before_3 V B c t d3))) $$ H3
  ihave H4 := (Entails.of_eq (congrArg (fun z => owns (c : Thread nD τ) (st1_4 t) fullShare z) (before_4 V B c t d4))) $$ H4
  by_cases ht : t.val = 0
  · ihave HΦ := (Entails.of_eq (Φat_zero V c ht)) $$ HΦ
    obtain rfl : t = t1_0 := Fin.ext ht
    icases HΦ with ⟨%fs, HΦ⟩
    ihave HS := (Entails.of_eq (owns_whole (c : Thread nD τ) cc1_scratch0 fullShare fs).symm) $$ HΦ
    iapply (body_first c (cfg1.grid.coords t1_0) ((isFirst_iff t1_0).mpr ht) (st1_0 t1_0) _ (st1_1 t1_0) _ (st1_2 t1_0) _ (st1_3 t1_0) _ (st1_4 t1_0) _ (st1_5 t1_0) _
      (Memref.whole cc1_scratch0) _ (blkAt V c 0 t1_0) (blkAt V c 1 t1_0) (blkAt V c 2 t1_0) (blkAt V c 3 t1_0) (blkAt V c 4 t1_0) _ fs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS]
    · ihave HS := (Entails.of_eq (owns_whole (c : Thread nD τ) cc1_scratch0 fullShare (rounded (blkAt V c 1 t1_0)))) $$ HS
      iapply (Entails.of_eq (Φat_later V c (Nat.succ_ne_zero _)).symm)
      iexact HS
    isplitl [Howes]; · iexact Howes
    isplitl [H0]; · iexact H0
    isplitl [H1]; · iexact H1
    isplitl [H2]; · iexact H2
    isplitl [H3]; · iexact H3
    isplitl [H4]; · iexact H4
    iexact H5
  · ihave HΦ := (Entails.of_eq (Φat_later V c ht)) $$ HΦ
    ihave HS := (Entails.of_eq (owns_whole (c : Thread nD τ) cc1_scratch0 fullShare (scr V c)).symm) $$ HΦ
    iapply (body_later c (cfg1.grid.coords t) (fun h => ht ((isFirst_iff t).mp h)) (st1_0 t) _ (st1_1 t) _ (st1_2 t) _ (st1_3 t) _ (st1_4 t) _ (st1_5 t) _
      (Memref.whole cc1_scratch0) _ (blkAt V c 0 t) (blkAt V c 1 t) (blkAt V c 2 t) (blkAt V c 3 t) (blkAt V c 4 t) _ (scr V c) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS]
    · ihave HS := (Entails.of_eq (owns_whole (c : Thread nD τ) cc1_scratch0 fullShare (scr V c))) $$ HS
      iapply (Entails.of_eq (Φat_later V c (Nat.succ_ne_zero _)).symm)
      iexact HS
    isplitl [Howes]; · iexact Howes
    isplitl [H0]; · iexact H0
    isplitl [H1]; · iexact H1
    isplitl [H2]; · iexact H2
    isplitl [H3]; · iexact H3
    isplitl [H4]; · iexact H4
    iexact H5

/-! ## Where the blocks lie -/

theorem index0 : ∀ t : Fin cfg1.N, win1_0.index t 0 = 0 ∧ win1_0.index t 1 = t.val ∧ win1_0.index t 2 = 0 := by decide +kernel
theorem index1 : ∀ t : Fin cfg1.N, win1_1.index t 0 = 0 ∧ win1_1.index t 1 = 0 ∧ win1_1.index t 2 = 0 := by decide +kernel
theorem index2 : ∀ t : Fin cfg1.N, win1_2.index t 0 = 0 ∧ win1_2.index t 1 = 0 := by decide +kernel
theorem index3 : ∀ t : Fin cfg1.N, win1_3.index t 0 = 0 ∧ win1_3.index t 1 = 0 := by decide +kernel
theorem index4 : ∀ t : Fin cfg1.N, win1_4.index t 0 = 0 ∧ win1_4.index t 1 = 0 := by decide +kernel
theorem index5 : ∀ t : Fin cfg1.N, win1_5.index t 0 = t.val ∧ win1_5.index t 1 = 0 := by decide +kernel

/-- Row `r` of the gathered rows' block at point `t` is row `512 t + r` of the array, slab by slab. -/
theorem blk0_apply (c : Dev nD) (t : Fin cfg1.N) (x : S7x512x128.Idx) :
    (blkAt V c 0 t : S7x512x128.Idx → Elt F .f32) x = (V c main_v3 : S7x4096x128.Idx → Elt F .f32)
      (ix3 (n0 := 7) (n1 := 4096) (n2 := 128) (x 0) ⟨512 * t.val + (x 1).val, by
        have h1 : (x 1).val < 512 := (x 1).isLt
        have h2 : t.val < grid1.N := t.isLt
        rw [N_1] at h2; omega⟩ (x 2)) := by
  have h : ∀ a, ((((win1_0.blk t).view.emb x : S7x4096x128.Idx)) a).val = win1_0.index t a * S7x512x128.size a + 1 * (x a).val := fun a => rfl
  show (V c main_v3 : S7x4096x128.Idx → Elt F .f32) ((win1_0.blk t).view.emb x) = _
  refine congrArg _ (funext fun a => Fin.ext ?_)
  match a with
  | ⟨0, _⟩ => refine (h 0).trans ?_; rw [(index0 t).1]; show 0 * 7 + 1 * (x 0).val = (x 0).val; omega
  | ⟨1, _⟩ => refine (h 1).trans ?_; rw [(index0 t).2.1]; show t.val * 512 + 1 * (x 1).val = 512 * t.val + (x 1).val; omega
  | ⟨2, _⟩ => refine (h 2).trans ?_; rw [(index0 t).2.2]; show 0 * 128 + 1 * (x 2).val = (x 2).val; omega

/-- The other inputs' blocks are their arrays, at every point. -/
theorem blk1_eq (c : Dev nD) (t : Fin cfg1.N) : (blkAt V c 1 t : S7x128x1024.Idx → Elt F .f32) = (V c main_v4 : S7x128x1024.Idx → Elt F .f32) := by
  funext x
  have h : ∀ a, ((((win1_1.blk t).view.emb x : S7x128x1024.Idx)) a).val = win1_1.index t a * S7x128x1024.size a + 1 * (x a).val := fun a => rfl
  show (V c main_v4 : S7x128x1024.Idx → Elt F .f32) ((win1_1.blk t).view.emb x) = _
  refine congrArg _ (funext fun a => Fin.ext ?_)
  match a with
  | ⟨0, _⟩ => refine (h 0).trans ?_; rw [(index1 t).1]; show 0 * 7 + 1 * (x 0).val = (x 0).val; omega
  | ⟨1, _⟩ => refine (h 1).trans ?_; rw [(index1 t).2.1]; show 0 * 128 + 1 * (x 1).val = (x 1).val; omega
  | ⟨2, _⟩ => refine (h 2).trans ?_; rw [(index1 t).2.2]; show 0 * 1024 + 1 * (x 2).val = (x 2).val; omega
theorem blk2_eq (c : Dev nD) (t : Fin cfg1.N) : (blkAt V c 2 t : S1x1024.Idx → Elt F .f32) = (V c main_v5 : S1x1024.Idx → Elt F .f32) := by
  funext x
  have h : ∀ a, ((((win1_2.blk t).view.emb x : S1x1024.Idx)) a).val = win1_2.index t a * S1x1024.size a + 1 * (x a).val := fun a => rfl
  show (V c main_v5 : S1x1024.Idx → Elt F .f32) ((win1_2.blk t).view.emb x) = _
  refine congrArg _ (funext fun a => Fin.ext ?_)
  match a with
  | ⟨0, _⟩ => refine (h 0).trans ?_; rw [(index2 t).1]; show 0 * 1 + 1 * (x 0).val = (x 0).val; omega
  | ⟨1, _⟩ => refine (h 1).trans ?_; rw [(index2 t).2]; show 0 * 1024 + 1 * (x 1).val = (x 1).val; omega
theorem blk3_eq (c : Dev nD) (t : Fin cfg1.N) : (blkAt V c 3 t : S1024x45.Idx → Elt F .f32) = (V c main_arg4 : S1024x45.Idx → Elt F .f32) := by
  funext x
  have h : ∀ a, ((((win1_3.blk t).view.emb x : S1024x45.Idx)) a).val = win1_3.index t a * S1024x45.size a + 1 * (x a).val := fun a => rfl
  show (V c main_arg4 : S1024x45.Idx → Elt F .f32) ((win1_3.blk t).view.emb x) = _
  refine congrArg _ (funext fun a => Fin.ext ?_)
  match a with
  | ⟨0, _⟩ => refine (h 0).trans ?_; rw [(index3 t).1]; show 0 * 1024 + 1 * (x 0).val = (x 0).val; omega
  | ⟨1, _⟩ => refine (h 1).trans ?_; rw [(index3 t).2]; show 0 * 45 + 1 * (x 1).val = (x 1).val; omega
theorem blk4_eq (c : Dev nD) (t : Fin cfg1.N) : (blkAt V c 4 t : S1x45.Idx → Elt F .f32) = (V c main_v6 : S1x45.Idx → Elt F .f32) := by
  funext x
  have h : ∀ a, ((((win1_4.blk t).view.emb x : S1x45.Idx)) a).val = win1_4.index t a * S1x45.size a + 1 * (x a).val := fun a => rfl
  show (V c main_v6 : S1x45.Idx → Elt F .f32) ((win1_4.blk t).view.emb x) = _
  refine congrArg _ (funext fun a => Fin.ext ?_)
  match a with
  | ⟨0, _⟩ => refine (h 0).trans ?_; rw [(index4 t).1]; show 0 * 1 + 1 * (x 0).val = (x 0).val; omega
  | ⟨1, _⟩ => refine (h 1).trans ?_; rw [(index4 t).2]; show 0 * 45 + 1 * (x 1).val = (x 1).val; omega

/-- Row `r` of the result's block at point `t` is row `512 t + r` of the array. -/
theorem emb5 (t : Fin cfg1.N) (x : S512x45.Idx) : ((((win1_5.blk t).view.emb x : S4096x45.Idx)) 0).val = 512 * t.val + (x 0).val
    ∧ ((((win1_5.blk t).view.emb x : S4096x45.Idx)) 1).val = (x 1).val := by
  have h : ∀ a, ((((win1_5.blk t).view.emb x : S4096x45.Idx)) a).val = win1_5.index t a * S512x45.size a + 1 * (x a).val := fun a => rfl
  refine ⟨(h 0).trans ?_, (h 1).trans ?_⟩
  · rw [(index5 t).1]; show t.val * 512 + _ = _; omega
  · rw [(index5 t).2]; show 0 * 45 + _ = _; omega

/-! ## The result array -/

/-- The point that writes row `j` of the result. -/
def ptOf (j : S4096x45.Idx) : Fin cfg1.N := ⟨(j 0).val / 512, by
  have : (j 0).val < 4096 := (j 0).isLt
  show (j 0).val / 512 < grid1.N
  rw [N_1]; omega⟩
/-- Its row within that point's block. -/
def rowOf (j : S4096x45.Idx) : S512x45.Idx := ix2 (n0 := 512) (n1 := 45) ⟨(j 0).val % 512, by omega⟩ (j 1)

/-- The result array the pipeline leaves: row `j` is row `j % 512` of the block of point `j / 512`. -/
def mlpOut (c : Dev nD) : S4096x45.Idx → Elt F .f32 := fun j => outAt V c (ptOf j) (rowOf j)

theorem emb5_rowOf (j : S4096x45.Idx) : ((win1_5.blk (ptOf j)).view.emb (rowOf j) : S4096x45.Idx) = j := by
  have e := emb5 (ptOf j) (rowOf j)
  refine funext fun a => Fin.ext ?_
  match a with
  | ⟨0, _⟩ => refine e.1.trans ?_; show 512 * ((j 0).val / 512) + (j 0).val % 512 = (j 0).val; omega
  | ⟨1, _⟩ => exact e.2
theorem ptOf_emb5 (t : Fin cfg1.N) (x : S512x45.Idx) : ptOf ((win1_5.blk t).view.emb x) = t ∧ rowOf ((win1_5.blk t).view.emb x) = x := by
  have e := emb5 t x
  have h0 : (x 0).val < 512 := (x 0).isLt
  refine ⟨Fin.ext ?_, funext fun a => Fin.ext ?_⟩
  · show (((win1_5.blk t).view.emb x : S4096x45.Idx) 0).val / 512 = t.val
    rw [e.1]; omega
  match a with
  | ⟨0, _⟩ => show (((win1_5.blk t).view.emb x : S4096x45.Idx) 0).val % 512 = (x 0).val; rw [e.1]; omega
  | ⟨1, _⟩ => exact e.2

/-- The write-backs of the eight points leave the result array at `mlpOut`. -/
theorem final_out (c : Dev nD) : (dat V B c).arrAt 5 cfg1.N = mlpOut V c := by
  refine (dat V B c).arrAt_eq_of_cover 5 (mlpOut V c) (fun t _ => ?_) (fun j => ⟨ptOf j, flush1_5 _, ?_⟩)
  · funext x
    show outAt V c t x = mlpOut V c ((win1_5.blk t).view.emb x)
    unfold mlpOut
    rw [(ptOf_emb5 t x).1, (ptOf_emb5 t x).2]
  · have h := (win1_5.blk (ptOf j)).view.emb_mem_set (rowOf j)
    rw [emb5_rowOf] at h
    exact h

/-! ## The region over the thread state -/

/-- The one pipeline has no prefetched table. -/
abbrev adm : (p : Fin 1) → (pcfgs (F := F) p).Adm := fun q => (cfgs q).toPCfg_adm
/-- The proof data of the program's one pipeline. -/
def pdats : (p : Fin 1) → (c : Dev nD) → Dat τ (Elt F) (HIx 1) ℕ UU ℕ (Pipeline.pin (pcfgs (F := F)) adm p) c
  | ⟨0, _⟩ => fun c => dat V B c

/-- The valuation the pipeline leaves: the result array at `mlpOut`, every other buffer as it was. -/
def Vp (c : Dev nD) (b : Ref sig .tc) : Buf (Elt F) ((c : Thread nD τ).loc b) :=
  if h : b = main_v7 then h ▸ (mlpOut V c : Buf (Elt F) ((c : Thread nD τ).loc main_v7)) else V c b
theorem Vp_out (c : Dev nD) : Vp V c main_v7 = mlpOut V c := dif_pos rfl
theorem Vp_ne (c : Dev nD) (b : Ref sig .tc) (h : b ≠ main_v7) : Vp V c b = V c b := dif_neg h

/-- What the core owes: nothing, its recorded waits at most at level `B`. -/
abbrev owesNone (c : Dev nD) : sProp 𝕄 :=
  iprop(∃ W, ⌜(K (F := F)).WBelow (c : Thread nD τ) W B⌝ ∗ owes (c : Thread nD τ) (0 : CellTallies nD τ sig (HIx 1)) W)

set_option backward.isDefEq.respectTransparency.types false in
/-- THE PIPELINE as a region: from every unscoped buffer at `V` and nothing owed to the same at `Vp V`. -/
def reg (lv : GSem nD τ sig → HIx 1 → ℕ) :
    Pipeline.RegionSeg (pcfgs (F := F)) adm (pdats V B) none defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation V B c).loose
  hwaits := Pipeline.hwaits_of_owed_zero _ _ _ _ _ lv 0 fun _ _ => rfl
  pre c := iprop(unscopedBufs c (V c) ∗ owesNone B c)
  post c := iprop(unscopedBufs c (Vp V c) ∗ owesNone B c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V B) launch1.win launch1.arr_whole c
      ((pdats V B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V B 0 c).Φ 0 = Φat V c 0 from rfl, Φat_zero V c rfl, ← scopedRest1_eq c]
    iintro ⟨-, -, Hr⟩; iexact Hr
  hout c := by
    rw [Pipeline.ownSems0_none, show (pdats V B 0 c).Φ (Fin.last _) = Φat V c grid1.N from rfl, Φat_later V c (by rw [N_1]; decide)]
    iintro Hr
    isplitr; · iempintro
    isplitr; · iempintro
    iapply (Entails.of_eq (scopedRest1_eq c).symm)
    iexists _; iexact Hr
  hexit c := by
    have hjoin := Pipeline.unscopedBufs_of_arrays (p := 0) (pcfgs (F := F)) adm (Ix := HIx 1) (Name := ℕ) (U := UU) (Lvl := ℕ) launch1.win launch1.arr_whole c
      (pdats V B) ((pdats V B 0 c).share_full fun _ => rfl) (V c) (Vp V c) ((pdats V B 0 c).arrAt · cfg1.N)
      (fun w => by
        fin_cases w
        · exact ((pdats V B 0 c).arrAt_in 0 rfl _).trans (Vp_ne V c main_v3 (by decide)).symm
        · exact ((pdats V B 0 c).arrAt_in 1 rfl _).trans (Vp_ne V c main_v4 (by decide)).symm
        · exact ((pdats V B 0 c).arrAt_in 2 rfl _).trans (Vp_ne V c main_v5 (by decide)).symm
        · exact ((pdats V B 0 c).arrAt_in 3 rfl _).trans (Vp_ne V c main_arg4 (by decide)).symm
        · exact ((pdats V B 0 c).arrAt_in 4 rfl _).trans (Vp_ne V c main_v6 (by decide)).symm
        · exact (final_out V B c).trans (Vp_out V c).symm)
      (fun b hb => Vp_ne V c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.K

end
-- ==== Proof.Launch.lean ====
/-
  THE LAUNCH: how the three arrays of the SparseCore call split over its thirty-two tasks and join again, and the ghost state
  the program is launched with — the handshakes' and the pipeline's.
-/
module

public import proofs.«01_k».proof.Proof.Common
public import proofs.«01_k».proof.Proof.MlpRegion

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays split and join -/

theorem iSet_disjoint : ∀ w ∈ (Finset.univ : Finset (Fin 32)), ∀ w' ∈ (Finset.univ : Finset (Fin 32)), w ≠ w' → Disjoint (iSet w) (iSet w') :=
  fun _ _ _ _ h => Finset.disjoint_left.mpr fun _ hx hx' => h (Fin.ext ((Finset.mem_filter.mp hx).2.symm.trans (Finset.mem_filter.mp hx').2))
theorem oSet_disjoint : ∀ w ∈ (Finset.univ : Finset (Fin 32)), ∀ w' ∈ (Finset.univ : Finset (Fin 32)), w ≠ w' → Disjoint (oSet w) (oSet w') :=
  fun _ _ _ _ h => Finset.disjoint_left.mpr fun _ hx hx' => h (Fin.ext ((Finset.mem_filter.mp hx).2.symm.trans (Finset.mem_filter.mp hx').2))
theorem iSet_cover : (Finset.univ : Finset (Fin 32)).biUnion iSet = Finset.univ :=
  Finset.eq_univ_of_forall fun x => Finset.mem_biUnion.mpr ⟨⟨(x 0).val, (x 0).isLt⟩, Finset.mem_univ _, Finset.mem_filter.mpr ⟨Finset.mem_univ _, rfl⟩⟩
theorem oSet_cover : (Finset.univ : Finset (Fin 32)).biUnion oSet = Finset.univ :=
  Finset.eq_univ_of_forall fun x => Finset.mem_biUnion.mpr ⟨⟨(x 0).val / 896, by
    have : (x 0).val < 28672 := (x 0).isLt
    omega⟩, Finset.mem_univ _, Finset.mem_filter.mpr ⟨Finset.mem_univ _, rfl⟩⟩

theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl
theorem tPts_shares (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

/-- The three arrays whole are the thirty-two tasks' pieces, core by core. -/
theorem whole_blocks (d : Dev nD) (x : Buf (Elt F) (iLoc d)) (t : Buf (Elt F) (tLoc d)) (o : Buf (Elt F) (oLoc d)) :
    (iprop((iLoc d ↦{fullShare} x) ∗ (tLoc d ↦{fullShare} t) ∗ (oLoc d ↦{fullShare} o)) : sProp 𝕄)
      = bigSep Finset.univ fun c : Fin 2 => bigSep Finset.univ fun i : Fin 16 =>
          iprop((iLoc d ↦[iSet (wid c i)]{fullShare} x) ∗ (tLoc d ↦{tq (wid c i)} t) ∗ (oLoc d ↦[oSet (wid c i)]{fullShare} o)) := by
  rw [iPts_blocks, tPts_shares, oPts_blocks, ← bigSep_sep', ← bigSep_sep', bigSep_univ_equiv widEquiv, bigSep_univ_prod]
  rfl

variable (m : (ℓ : Loc nD τ sig) → Buf (Elt F) ℓ) (X : (d : Dev nD) → Buf (Elt F) (iLoc d))

/-- What the call's cores are handed is the three arrays whole. -/
theorem st0_eq (d : Dev nD) : (bigSep Finset.univ fun c : Fin ((K (F := F)).nCore 0) => (P m X).st 0 d c)
    = iprop((iLoc d ↦{fullShare} X d) ∗ (tLoc d ↦{fullShare} m (tLoc d)) ∗ (oLoc d ↦{fullShare} m (oLoc d))) :=
  (whole_blocks d (X d) (m (tLoc d)) (m (oLoc d))).symm
/-- What they bring back is the three whole, the result holding the gathered rows. -/
theorem dn0_eq (d : Dev nD) : (bigSep Finset.univ fun c : Fin ((K (F := F)).nCore 0) => (P m X).dn 0 d c)
    = iprop((iLoc d ↦{fullShare} X d) ∗ (tLoc d ↦{fullShare} m (tLoc d)) ∗ (oLoc d ↦{fullShare} gathered (X d) (m (tLoc d)))) :=
  (whole_blocks d (X d) (m (tLoc d)) (gathered (X d) (m (tLoc d)))).symm

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core hands its tasks exactly what it was handed, and brings back exactly what they bring. -/
theorem vecSplit : (K (F := F)).VecSplit' (P m X) 0 := by
  intro d c
  show (bigSep Finset.univ fun i : Fin 16 => goW m X d (wid (Fin.cast nCore_zero c) i)) ⊢ |={Set.univ}=> iprop(
      (bigSep Finset.univ fun i : Fin ((K (F := F)).nSub 0) => goW m X d (wid (Fin.cast nCore_zero c) (Fin.cast nSub_zero i)))
      ∗ ((bigSep Finset.univ fun i : Fin ((K (F := F)).nSub 0) => tdW m X d (wid (Fin.cast nCore_zero c) (Fin.cast nSub_zero i)))
          -∗ bigSep Finset.univ fun i : Fin 16 => tdW m X d (wid (Fin.cast nCore_zero c) i)))
  rw [bigSep_tasks (F := F) (fun i => goW m X d (wid (Fin.cast nCore_zero c) i)),
    bigSep_tasks (F := F) (fun i => tdW m X d (wid (Fin.cast nCore_zero c) i))]
  iintro H; imodintro
  isplitl [H]; · iexact H
  iintro H; iexact H

/-! ## The ghost state at the launch -/

/-- The pipeline's share of the launch element. -/
def uP : UP := initOf (Pipeline.cells (nD := nD) (Pipeline.pin (pcfgs (F := F)) adm) cellOf_inj) (Pipeline.launchToks (nD := nD) (Pipeline.pin (pcfgs (F := F)) adm) cellOf_inj)
/-- The launch element: the handshakes' cells, the pipeline's cells, no transfer yet. -/
def u₀ : UU := (initOf (K (F := F)).hsCells (K (F := F)).hsToks, (uP (F := F), 1))

/-- What @main is dealt besides its buffers: its pipeline's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

/-- The launch element funds the handshakes and deals the pipeline's ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m X).x q thr) := by
  unfold u₀
  iintro Hu
  ihave H := (ownU_split _ _) $$ Hu
  icases H with ⟨HH, HB⟩
  unfold uP
  imod (Pipeline.fund_ghost (Pipeline.pin (pcfgs (F := F)) adm) EP cellOf_inj) $$ HB with ⟨Hg, Ht⟩
  imodintro
  isplitl [HH]; · iexact HH
  isplitl [Hg Ht]
  · iapply (Entails.of_eq (bigSep_sep' Finset.univ (fun d : Dev nD => Pipeline.cellsGhost (Pipeline.pin (pcfgs (F := F)) adm) EP 0 d)
      (fun d : Dev nD => Pipeline.toksInit (Pipeline.pin (pcfgs (F := F)) adm) EP 0 d)).symm)
    isplitl [Hg]
    · iapply (Entails.of_eq (bigSep_congr fun (d : Dev nD) _ => bigSep_univ_of_subsingleton (0 : Fin 1))) $$ Hg
    · iapply (Entails.of_eq (bigSep_congr fun (d : Dev nD) _ => bigSep_univ_of_subsingleton (0 : Fin 1))) $$ Ht
  rw [show (bigSep Finset.univ fun thr : Thread nD τ => bigSep Finset.univ fun q : Fin 1 => (P (F := F) m X).x q thr) = bigSep Finset.univ fun _ => iprop(emp) from
    bigSep_congr fun _ _ => bigSep_univ_of_subsingleton (0 : Fin 1), bigSep_emp']
  iempintro

end Cert.Proof.K

end
-- ==== Proof.Main.lean ====
/-
  @main ON THE TENSORCORE: the index list re-laid by the host, the SparseCore call, the four reshapes, the pipeline. Its
  thread state is every unscoped buffer at a valuation; the valuation each line leaves is named here.
-/
module

public import proofs.«01_k».proof.Proof.Launch
public import Idealize.ShloMosaic.Lib.StableHlo.RunRead

@[expose] public section

set_option maxRecDepth 16384

noncomputable section

namespace Cert.Proof.K

open Cert.KernelIdeal Cert.KernelIdeal.Gen

open Idealize.ShloMosaic
open Idealize.ShloMosaic.TcCoe

open Idealize.ShloMosaic.SparseCore.Cfg (HIx Pay)
open Idealize.ShloMosaic.StableHlo (held held_sub_split held_congr wp_hlo_within launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's operations -/

abbrev opT : HloOp τ sig (Elt F) := StableHlo.unary main_arg0 main_v0 ((transpose S7x4096 [1, 0] · transposes_S4096x7_S7x4096_1_0) : (⟨S4096x7, .i32⟩ : BufTy).Contents (Elt F) → (⟨S7x4096, .i32⟩ : BufTy).Contents (Elt F))
abbrev opI : HloOp τ sig (Elt F) := StableHlo.reshape main_v0 main_v1 (rfl : (.i32 : EltTy) = .i32) shapeCasts_S7x4096_S32x7x128
abbrev opG : HloOp τ sig (Elt F) := StableHlo.reshape main_v2 main_v3 (rfl : (.f32 : EltTy) = .f32) shapeCasts_S28672x128_S7x4096x128
abbrev opW : HloOp τ sig (Elt F) := StableHlo.reshape main_arg2 main_v4 (rfl : (.f32 : EltTy) = .f32) shapeCasts_S896x1024_S7x128x1024
abbrev opB : HloOp τ sig (Elt F) := StableHlo.reshape main_arg3 main_v5 (rfl : (.f32 : EltTy) = .f32) shapeCasts_S1024_S1x1024
abbrev opC : HloOp τ sig (Elt F) := StableHlo.reshape main_arg5 main_v6 (rfl : (.f32 : EltTy) = .f32) shapeCasts_S45_S1x45

/-! ## The buffers line by line -/

variable (m : (ℓ : Loc nD τ sig) → Buf (Elt F) ℓ) (ρ : Dev nD → PrngReg)

/-- The buffers when the SparseCore call starts: the index list transposed and re-laid. -/
def V2 (d : Dev nD) : Valuation τ sig (Elt F) := StableHlo.after [opT, opI] (launchContents m d)
/-- The index list as the tasks read it. -/
def idxList (d : Dev nD) : Buf (Elt F) (iLoc d) := V2 m d (Proc.devRef .tc main_v1)
/-- The buffers after the call: the gathered rows in its result. -/
def V3 (d : Dev nD) : Valuation τ sig (Elt F) :=
  Function.update (V2 m d) (Proc.devRef .tc main_v2) (gathered (idxList m d) (m (tLoc d)) : Buf (Elt F) (oLoc d))
/-- The buffers when the pipeline starts: the four reshapes done. -/
def V7 (d : Dev nD) : Valuation τ sig (Elt F) := StableHlo.after [opG, opW, opB, opC] (V3 m d)
/-- The same, as the pipeline's region reads it. -/
def Vr (d : Dev nD) (b : Ref sig .tc) : Buf (Elt F) ((d : Thread nD τ).loc b) := V7 m d (Proc.devRef .tc b)

/-- A buffer the first two lines do not write. -/
theorem V2_of (d : Dev nD) (b : Ref sig .tc) (h : b ∉ [main_v0, main_v1]) : V2 m d (Proc.devRef .tc b) = m (d, Proc.devRef .tc b) :=
  StableHlo.after_unwritten [main_v0, main_v1] rfl h _
theorem V3_of (d : Dev nD) (b : DevRef τ sig) (h : b ≠ Proc.devRef .tc main_v2) : V3 m d b = V2 m d b := Function.update_of_ne h _ _
theorem V3_out (d : Dev nD) : V3 m d (Proc.devRef .tc main_v2) = gathered (idxList m d) (m (tLoc d)) := Function.update_self _ _ _
/-- A buffer the four reshapes do not write. -/
theorem V7_of (d : Dev nD) (b : Ref sig .tc) (h : b ∉ [main_v3, main_v4, main_v5, main_v6]) : V7 m d (Proc.devRef .tc b) = V3 m d (Proc.devRef .tc b) :=
  StableHlo.after_unwritten [main_v3, main_v4, main_v5, main_v6] rfl h _

/-! ## The call's three arrays out of the thread state -/

abbrev S14 : Finset (DevRef τ sig) := Pipeline.ucRefs τ sig
abbrev T3 : Finset (DevRef τ sig) := {Proc.devRef .tc main_v1, Proc.devRef .tc main_arg1, Proc.devRef .tc main_v2}
theorem two_sub (x y : Ref sig .tc) (h : Proc.devRef (τ := τ) .tc x ∈ S14 ∧ Proc.devRef (τ := τ) .tc y ∈ S14) :
    ({Proc.devRef (τ := τ) .tc x, Proc.devRef (τ := τ) .tc y} : Finset (DevRef τ sig)) ⊆ S14 :=
  Finset.insert_subset h.1 (Finset.singleton_subset_iff.mpr h.2)
theorem T3_sub : T3 ⊆ S14 := by decide

theorem held_T3 (d : Dev nD) (W : Valuation τ sig (Elt F)) : (held (SparseCore.T d) T3 W : sProp 𝕄)
    = iprop((iLoc d ↦{fullShare} W (Proc.devRef .tc main_v1)) ∗ (tLoc d ↦{fullShare} W (Proc.devRef .tc main_arg1))
        ∗ (oLoc d ↦{fullShare} W (Proc.devRef .tc main_v2))) := by
  unfold held
  rw [SparseCore.bigSep_insert' (by decide), SparseCore.bigSep_insert' (by decide), bigSep_singleton]

/-- Before the call: the three arrays, and the rest. -/
theorem held_before (d : Dev nD) : (held (SparseCore.T d) S14 (V2 m d) : sProp 𝕄)
    = iprop(((iLoc d ↦{fullShare} idxList m d) ∗ (tLoc d ↦{fullShare} m (tLoc d)) ∗ (oLoc d ↦{fullShare} m (oLoc d))) ∗ held (SparseCore.T d) (S14 \ T3) (V2 m d)) := by
  rw [held_sub_split (SparseCore.T d) T3_sub, held_T3, V2_of m d main_arg1 (by decide), V2_of m d main_v2 (by decide)]
  rfl
/-- After the call: the same, the result holding the gathered rows. -/
theorem held_after (d : Dev nD) : (held (SparseCore.T d) S14 (V3 m d) : sProp 𝕄)
    = iprop(((iLoc d ↦{fullShare} idxList m d) ∗ (tLoc d ↦{fullShare} m (tLoc d)) ∗ (oLoc d ↦{fullShare} gathered (idxList m d) (m (tLoc d))))
        ∗ held (SparseCore.T d) (S14 \ T3) (V2 m d)) := by
  rw [held_sub_split (SparseCore.T d) T3_sub, held_T3, V3_out, V3_of m d (Proc.devRef .tc main_v1) (by decide), V3_of m d (Proc.devRef .tc main_arg1) (by decide),
    V2_of m d main_arg1 (by decide),
    held_congr (SparseCore.T d) (S := S14 \ T3) (V := V3 m d) (V' := V2 m d) fun b hb => V3_of m d b fun h => (Finset.mem_sdiff.mp hb).2 (by rw [h]; decide)]
  rfl

/-! ## The pipeline's call -/

/-- The level every wait of a TensorCore past the one call is below. -/
abbrev B1 : ℕ := 8 * 1

/-- The pipeline's call, in the program without the SparseCore's labels. -/
abbrev pipeCall : Prog (TpuEff nD τ sig (Elt F) (ΛP (F := F)) .tc) PUnit := .op (.customCall (Pipeline.entry (0 : Fin 1)) ()) fun _ => .ret ⟨⟩

theorem reg_pre (B : ℕ) (d : Dev nD) : (reg (Vr m) B (K (F := F)).lev).pre d = iprop(unscopedBufs d (Vr m d) ∗ owesNone (F := F) B d) := rfl
theorem reg_post (B : ℕ) (d : Dev nD) : (reg (Vr m) B (K (F := F)).lev).post d = iprop(unscopedBufs d (Vp (Vr m) d) ∗ owesNone (F := F) B d) := rfl

/-- The call of the pipeline, in the program with the SparseCore's labels: the region of `MlpRegion`. -/
theorem region_call (B : ℕ) (d : Dev nD) (Φ : PUnit → sProp 𝕄) :
    iprop((iprop(boundary (SparseCore.T d) ∗ unscopedBufs d (Vp (Vr m) d) ∗ owesNone (F := F) B d) -∗ Φ ⟨⟩)
        ∗ boundary (SparseCore.T d) ∗ (unscopedBufs d (Vr m d) ∗ owesNone (F := F) B d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have hlift := (K (F := F)).wp_liftProg (Name := ℕ) (U := UU) (N := 1) (D (F := F)) 𝒱 (SparseCore.T d) Set.univ none (pipeCall (F := F)) Φ
  have hreg := Pipeline.RegionSeg.wp (pcfgs (F := F)) adm (pdats (Vr m) B) none cellOf_inj EP defs₀ 𝒱₀ (K (F := F)).L (K (F := F)).lev
    (reg (Vr m) B (K (F := F)).lev) d none (fun u hu => nomatch hu) (fun _ => .ret ⟨⟩) Φ
  refine BIBase.Entails.trans ?_ hlift
  refine BIBase.Entails.trans ?_ hreg
  iintro ⟨Hk, Hb, Hpre, Hl, HG⟩
  isplitl [Hk]
  · iintro ⟨Hb, Hpost⟩; rw [wp_ret]; imodintro
    iapply Hk
    isplitl [Hb]; · iexact Hb
    iapply (Entails.of_eq (reg_post m B d)); iexact Hpost
  isplitl [Hb]; · iexact Hb
  isplitl [Hpre]; · iapply (Entails.of_eq (reg_pre m B d).symm); iexact Hpre
  isplitl [Hl]; · iexact Hl
  iexact HG

/-- What the TensorCore holds of the handshakes past the one call, besides what it owes. -/
abbrev tcPast (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))
/-- Past the one call the TensorCore owes nothing. -/
theorem tcSt_one (d : Dev nD) : ((K (F := F)).tcSt EH d 1 : sProp 𝕄) = iprop(owesNone (F := F) B1 d ∗ tcPast (F := F) d) := by
  unfold SparseCore.Cfg.tcSt
  rw [show (K (F := F)).Otc d 1 = 0 from (K (F := F)).Otc_end d le_rfl]
  rfl

/-! ## The run of @main -/

/-- What @main ends holding: every buffer, as the pipeline leaves them. -/
abbrev FIN (d : Dev nD) : sProp 𝕄 := unscopedBufs d (Vp (Vr m) d)

theorem unscoped_held (d : Dev nD) (W : Valuation τ sig (Elt F)) :
    (unscopedBufs d (fun b => W (Proc.devRef .tc b)) : sProp 𝕄) = held (SparseCore.T d) S14 W := Pipeline.unscopedBufs_held d W

/-- @main from what the launch deals it: the two host lines, the call, the four reshapes, the pipeline. -/
theorem hmain (κ : GSem nD τ sig → ℕ) (d : Dev nD) :
    iprop((K (F := F)).ctx EH (P m (idxList m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S14 (launchContents m d) from unscoped_held d (launchContents m d)]
  simp only [main, wp_bind, wp_pure]
  iintro ⟨#Hctx, Hst, ⟨Hb, Hheld, Hts, -⟩, HG⟩
  iapply (wp_hlo_within 𝒱 (SparseCore.T d) none Set.univ (op := opT) (S := S14) (two_sub main_arg0 main_v0 (by decide)) (V := launchContents m d)) $$ [Hb Hheld]
  · isplitl [Hb] <;> iassumption
  iintro ⟨Hb, Hheld⟩
  rw [wp_ret]; imodintro
  iapply (wp_hlo_within 𝒱 (SparseCore.T d) none Set.univ (op := opI) (S := S14) (two_sub main_v0 main_v1 (by decide)) (V := (opT (F := F)).result (launchContents m d))) $$ [Hb Hheld]
  · isplitl [Hb] <;> iassumption
  iintro ⟨Hb, Hheld⟩
  rw [wp_ret]; imodintro
  ihave Hh := (Entails.of_eq (show (held (SparseCore.T d) S14 ((opI (F := F)).result ((opT (F := F)).result (launchContents m d))) : sProp 𝕄) = _ from held_before m d)) $$ Hheld
  icases Hh with ⟨H3, Hrest⟩
  -- the call: its three arrays out and back
  iapply ((K (F := F)).wp_run (D (F := F)) 𝒱 (EH := EH) (P := P m (idxList m)) κ d 0) $$ [Hst H3 Hrest Hb Hts HG]
  isplitr; · iexact Hctx
  isplitl [Hst]; · iexact Hst
  isplitl [H3]
  · iapply (Entails.of_eq (st0_eq m (idxList m) d).symm); iexact H3
  iintro ⟨Hst, Hdn⟩
  ihave H3 := (Entails.of_eq (dn0_eq m (idxList m) d)) $$ Hdn
  ihave Hheld := (Entails.of_eq (held_after m d).symm) $$ [H3 Hrest]
  · isplitl [H3] <;> iassumption
  -- the four reshapes
  iapply (wp_hlo_within 𝒱 (SparseCore.T d) none Set.univ (op := opG) (S := S14) (two_sub main_v2 main_v3 (by decide)) (V := V3 m d)) $$ [Hb Hheld]
  · isplitl [Hb] <;> iassumption
  iintro ⟨Hb, Hheld⟩
  rw [wp_ret]; imodintro
  iapply (wp_hlo_within 𝒱 (SparseCore.T d) none Set.univ (op := opW) (S := S14) (two_sub main_arg2 main_v4 (by decide)) (V := (opG (F := F)).result (V3 m d))) $$ [Hb Hheld]
  · isplitl [Hb] <;> iassumption
  iintro ⟨Hb, Hheld⟩
  rw [wp_ret]; imodintro
  iapply (wp_hlo_within 𝒱 (SparseCore.T d) none Set.univ (op := opB) (S := S14) (two_sub main_arg3 main_v5 (by decide)) (V := (opW (F := F)).result ((opG (F := F)).result (V3 m d)))) $$ [Hb Hheld]
  · isplitl [Hb] <;> iassumption
  iintro ⟨Hb, Hheld⟩
  rw [wp_ret]; imodintro
  iapply (wp_hlo_within 𝒱 (SparseCore.T d) none Set.univ (op := opC) (S := S14) (two_sub main_arg5 main_v6 (by decide)) (V := (opB (F := F)).result ((opW (F := F)).result ((opG (F := F)).result (V3 m d))))) $$ [Hb Hheld]
  · isplitl [Hb] <;> iassumption
  iintro ⟨Hb, Hheld⟩
  rw [wp_ret]; imodintro
  ihave Hub := (Entails.of_eq (show (held (SparseCore.T d) S14 ((opC (F := F)).result ((opB (F := F)).result ((opW (F := F)).result ((opG (F := F)).result (V3 m d))))) : sProp 𝕄)
    = unscopedBufs d (Vr m d) from (unscoped_held d (V7 m d)).symm)) $$ Hheld
  -- the pipeline
  ihave Hst' := (Entails.of_eq (show ((K (F := F)).tcSt EH d ((0 : Fin 1).val + 1) : sProp 𝕄) = _ from tcSt_one d)) $$ Hst
  icases Hst' with ⟨HO, Hst⟩
  ihave Hl := (SparseCore.Cfg.ctx_levAts (K := K (F := F)) (P := P m (idxList m)) κ) $$ Hctx
  iapply (region_call m B1 d _)
  isplitl [Hst Hts]
  · iintro ⟨Hb, Hub, HO⟩
    imodintro
    isplitl [Hst HO]
    · iapply (Entails.of_eq (tcSt_one d).symm)
      isplitl [HO] <;> iassumption
    isplitl [Hub]; · iexact Hub
    isplitl [Hb] <;> iassumption
  isplitl [Hb]; · iexact Hb
  isplitl [Hub HO]
  · isplitl [Hub]; · iexact Hub
    iexact HO
  isplitl [Hl]; · iexact Hl
  iexact HG

/-! ## The end -/

/-- What the ending memory holds: every unscoped buffer as the pipeline leaves it. -/
def fq (d : Dev nD) (s' : Phys nD τ sig (Elt F)) : Prop :=
  ∀ b : Ref sig .tc, b.isScoped = false → s'.mem.mem ((SparseCore.T d).loc b) = Vp (Vr m) d b

theorem hfin (d : Dev nD) (s' : Phys nD τ sig (Elt F)) : iprop(FIN m d ∗ SI s') ⊢ (⌜fq m d s'⌝ : sProp 𝕄) := by
  refine BIBase.Entails.trans ?_ (pure_mono (φ := ∀ b : {b : Ref sig .tc // b.isScoped = false}, ∀ i ∈ (Finset.univ : Finset (Idx ((SparseCore.T d).loc b.1))), s'.mem.mem ((SparseCore.T d).loc b.1) i = Vp (Vr m) d b.1 i)
    fun h b hb => funext fun i => h ⟨b, hb⟩ i (Finset.mem_univ i))
  refine BIBase.Entails.trans ?_ pure_forall.2
  refine forall_intro fun b => ?_
  refine BIBase.Entails.trans ?_ (SI_pointsTo_agree (st := s') (ℓ := (SparseCore.T d).loc b.1) (I := Finset.univ) (q := fullShare) (f := Vp (Vr m) d b.1))
  unfold FIN unscopedBufs
  have hb : (bigSep (Finset.univ.filter fun b : Ref sig .tc => ¬ b.isScoped) fun b => (((d.tc : Thread nD τ).loc b) ↦{fullShare} Vp (Vr m) d b : sProp 𝕄))
      ⊢ (((SparseCore.T d).loc b.1) ↦{fullShare} Vp (Vr m) d b.1 : sProp 𝕄) := bigSep_elim (Φ := fun b : Ref sig .tc => ((((d.tc : Thread nD τ).loc b) ↦{fullShare} Vp (Vr m) d b : sProp 𝕄)))
    (show b.1 ∈ Finset.univ.filter fun b : Ref sig .tc => ¬ b.isScoped from Finset.mem_filter.mpr ⟨Finset.mem_univ _, by simp [b.2]⟩)
  iintro ⟨HF, HS⟩
  isplitl [HS]; · iexact HS
  iapply hb; iexact HF

/-- The value the program ends with on device `d`, and its arguments as they were. -/
def Ends (d : Dev nD) (mem : (ℓ : Loc nD τ sig) → Buf (Elt F) ℓ) : Prop :=
  mem ((SparseCore.T d).loc main_v7) = mlpOut (Vr m) d ∧ mem ((SparseCore.T d).loc main_arg0) = m ((SparseCore.T d).loc main_arg0) ∧ mem ((SparseCore.T d).loc main_arg1) = m ((SparseCore.T d).loc main_arg1)
    ∧ mem ((SparseCore.T d).loc main_arg2) = m ((SparseCore.T d).loc main_arg2) ∧ mem ((SparseCore.T d).loc main_arg3) = m ((SparseCore.T d).loc main_arg3)
    ∧ mem ((SparseCore.T d).loc main_arg4) = m ((SparseCore.T d).loc main_arg4) ∧ mem ((SparseCore.T d).loc main_arg5) = m ((SparseCore.T d).loc main_arg5)

/-- A buffer no line of the program writes ends as it was. -/
theorem Vp_arg (d : Dev nD) (b : Ref sig .tc) (h : b ∉ [main_v7, main_v3, main_v4, main_v5, main_v6, main_v2, main_v0, main_v1]) :
    Vp (Vr m) d b = m ((SparseCore.T d).loc b) := by
  simp only [List.mem_cons, not_or] at h
  rw [Vp_ne _ _ _ h.1]
  refine (V7_of m d b (by simp only [List.mem_cons, not_or]; tauto)).trans ((V3_of m d _ fun e => ?_).trans (V2_of m d b (by simp only [List.mem_cons, not_or]; tauto)))
  exact h.2.2.2.2.2.1 (Proc.devRef_injective _ e)

theorem ends_of_fq (d : Dev nD) (s' : Phys nD τ sig (Elt F)) (h : fq m d s') : Ends m d s'.mem.mem :=
  ⟨(h main_v7 rfl).trans (Vp_out _ _), (h main_arg0 rfl).trans (Vp_arg m d _ (by decide)), (h main_arg1 rfl).trans (Vp_arg m d _ (by decide)),
    (h main_arg2 rfl).trans (Vp_arg m d _ (by decide)), (h main_arg3 rfl).trans (Vp_arg m d _ (by decide)),
    (h main_arg4 rfl).trans (Vp_arg m d _ (by decide)), (h main_arg5 rfl).trans (Vp_arg m d _ (by decide))⟩

end Cert.Proof.K

end
-- ==== Proof.Pre.lean ====
/-
  THE FRAMES' PRECONDITION READ: every index names a row of the table; so the index list the tasks read stays within it.
-/
module

public import proofs.«01_k».proof.Defs
public import proofs.«01_k».proof.Proof.Gen.Pre_in_vocab
public import proofs.«01_k».proof.Proof.Main
public import Idealize.ShloMosaic.Lib.ReduceAll

@[expose] public section

set_option maxRecDepth 16384

noncomputable section

namespace Cert.Proof.K

open Cert.KernelIdeal Cert.KernelIdeal.Gen

open Idealize.ShloMosaic
open Idealize.ShloMosaic.TcCoe

/-! ## Words -/

instance subsingleton_scalar : Subsingleton Cert.Pre_in_vocab.S_.Idx := ⟨fun a b => funext fun k => k.elim0⟩

/-- A word at least 0 and below 100000, read as signed, is below 100000 read as unsigned. -/
theorem below_of_word (v : BitVec 32) (e : IntOp.andi (IntOp.cmpi .sge v 0#32) (IntOp.cmpi .slt v 100000#32) = 1#1) : v.toNat < 100000 := by
  have andi_ofBool : ∀ a b : Bool, IntOp.andi (BitVec.ofBool a) (BitVec.ofBool b) = BitVec.ofBool (a && b) := by decide
  have ofBool_eq_one : ∀ b : Bool, (BitVec.ofBool b = 1#1) = (b = true) := by decide
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-! ## The precondition -/

section

variable {F : FTy → Type} [FloatOps F]

/-- Where `in_vocab` holds, every index names a row of the table. -/
theorem below_of_in_vocab (a0 : IVec Cert.Pre_in_vocab.S4096x7 32) (a1 : FVec F Cert.Pre_in_vocab.S100000x128 .f32) (a2 : FVec F Cert.Pre_in_vocab.S896x1024 .f32)
    (a3 : FVec F Cert.Pre_in_vocab.S1024 .f32) (a4 : FVec F Cert.Pre_in_vocab.S1024x45 .f32) (a5 : FVec F Cert.Pre_in_vocab.S45 .f32)
    (h : Cert.Pre_in_vocab.fn (F := F) a0 a1 a2 a3 a4 a5 = fun _ => 1#1) (i : Cert.Pre_in_vocab.S4096x7.Idx) : (a0 i).toNat < 100000 :=
  below_of_word _ (Host.reduce_andi_all _ _ _ _ _ (congrFun h (fun k => k.elim0)) i)

end

/-! ## The index list -/

section

variable {F : FTy → Type} [FloatOps F]
variable (m : (ℓ : Loc nD τ sig) → Buf (Elt F) ℓ)

/-- The index list the tasks read: the index array transposed, then cut into the tasks' seven lists of 128. -/
theorem idxList_eq (d : Dev nD) : idxList m d
    = (shapeCast S32x7x128 (transpose S7x4096 [1, 0] (m ((d : Thread nD τ).loc main_arg0)) transposes_S4096x7_S7x4096_1_0) shapeCasts_S7x4096_S32x7x128) := by
  show StableHlo.after [opT, opI] (StableHlo.launchContents m d) (Proc.devRef .tc main_v1) = _
  after_results
  rfl

/-- Where every index names a row of the table, so does every entry of the list the tasks read. -/
theorem inRange_of (h : ∀ (d : Dev nD) (i : S4096x7.Idx), ((show IVec S4096x7 32 from m ((d : Thread nD τ).loc main_arg0)) i).toNat < 100000) :
    InRange (idxList m) := by
  intro d j
  rw [idxList_eq]
  exact h d _

end

end Cert.Proof.K

end
-- ==== Proof.KernelValue.lean ====
/-
  THE KERNEL'S VALUE, entry by entry, in terms of the arguments: the re-laid index list, the gathered rows, the reshapes and the
  pipeline's blocks read back to the arguments.
-/
module

public import proofs.«01_k».proof.Proof.Block
public import proofs.«01_k».proof.Proof.Pre
public import Idealize.ShloMosaic.Lib.Pointwise

@[expose] public section

set_option maxRecDepth 16384

noncomputable section

namespace Cert.Proof.K

open Cert.KernelIdeal Cert.KernelIdeal.Gen

open Idealize.ShloMosaic
open Idealize.ShloMosaic.TcCoe

section

variable {F : FTy → Type} [FloatOps F]

/-! ## The arrays the pipeline reads -/

/-- The index list at a place: place `n` of the row of tasks is column `n / 4096` of row `n % 4096` of the index array. -/
theorem list_apply (x : IVec S4096x7 32) (k : Fin 7) (b : Fin 4096) (p : Fin 32) (q : Fin 7) (s : Fin 128)
    (h : (p.val * 7 + q.val) * 128 + s.val = k.val * 4096 + b.val) :
    shapeCast S32x7x128 (transpose S7x4096 [1, 0] x transposes_S4096x7_S7x4096_1_0) shapeCasts_S7x4096_S32x7x128 (ix3 p q s) = x (ix2 b k) := by
  pointwise
  refine congrArg₂ (fun i j => x (ix2 i j)) (Fin.ext ?_) (Fin.ext ?_)
  · show (p.val * 896 + q.val * 128 + s.val) % 4096 = b.val; omega
  · show (p.val * 896 + q.val * 128 + s.val) / 4096 = k.val; omega

/-- The gathered rows, slab by slab: row `b` of slab `k` is the table's row that index `k` of row `b` names. -/
theorem rows_apply (x : IVec S4096x7 32) (t : FVec F S100000x128 .f32) (k : Fin 7) (b : Fin 4096) (l : Fin 128) :
    shapeCast S7x4096x128 (gathered (F := F) (shapeCast S32x7x128 (transpose S7x4096 [1, 0] x transposes_S4096x7_S7x4096_1_0) shapeCasts_S7x4096_S32x7x128) t)
      shapeCasts_S28672x128_S7x4096x128 (ix3 k b l) = t (ix2 (rowNo (x (ix2 b k))) l) := by
  pointwise
  unfold gathered
  refine congrArg₂ (fun i j => t (ix2 (rowNo i) j)) (list_apply x k b _ _ _ ?_) rfl
  show ((k.val * 4096 + b.val) / 896 * 7 + (k.val * 4096 + b.val) % 896 / 128) * 128 + (k.val * 4096 + b.val) % 128 = k.val * 4096 + b.val
  omega

/-- The weights, slab by slab. -/
theorem weights_apply (w : FVec F S896x1024 .f32) (k : Fin 7) (l : Fin 128) (h : Fin 1024) :
    shapeCast S7x128x1024 w shapeCasts_S896x1024_S7x128x1024 (ix3 k l h) = w (ix2 ⟨k.val * 128 + l.val, by omega⟩ h) := by
  pointwise
/-- The hidden layer's bias as a row. -/
theorem bias1_apply (b : FVec F S1024 .f32) (h : Fin 1024) : shapeCast S1x1024 b shapeCasts_S1024_S1x1024 (ix2 0 h) = b (ix1 h) := by
  pointwise
/-- The logits' bias as a row. -/
theorem bias2_apply (b : FVec F S45 .f32) (c : Fin 45) : shapeCast S1x45 b shapeCasts_S45_S1x45 (ix2 0 c) = b (ix1 c) := by
  pointwise

variable (m : (ℓ : Loc nD τ sig) → Buf (Elt F) ℓ) (d : Dev nD)

theorem Vr_rows : (Vr m d main_v3 : S7x4096x128.Idx → Elt F .f32) = shapeCast S7x4096x128 (gathered (idxList m d) (m (tLoc d))) shapeCasts_S28672x128_S7x4096x128 := by
  show StableHlo.after [opG, opW, opB, opC] (V3 m d) (Proc.devRef .tc main_v3) = _
  after_results
  rw [V3_out]
  rfl
theorem Vr_weights : (Vr m d main_v4 : S7x128x1024.Idx → Elt F .f32) = shapeCast S7x128x1024 (m ((d : Thread nD τ).loc main_arg2)) shapeCasts_S896x1024_S7x128x1024 := by
  show StableHlo.after [opG, opW, opB, opC] (V3 m d) (Proc.devRef .tc main_v4) = _
  after_results
  rw [V3_of m d (Proc.devRef .tc main_arg2) (by decide), V2_of m d main_arg2 (by decide)]
  rfl
theorem Vr_bias1 : (Vr m d main_v5 : S1x1024.Idx → Elt F .f32) = shapeCast S1x1024 (m ((d : Thread nD τ).loc main_arg3)) shapeCasts_S1024_S1x1024 := by
  show StableHlo.after [opG, opW, opB, opC] (V3 m d) (Proc.devRef .tc main_v5) = _
  after_results
  rw [V3_of m d (Proc.devRef .tc main_arg3) (by decide), V2_of m d main_arg3 (by decide)]
  rfl
theorem Vr_bias2 : (Vr m d main_v6 : S1x45.Idx → Elt F .f32) = shapeCast S1x45 (m ((d : Thread nD τ).loc main_arg5)) shapeCasts_S45_S1x45 := by
  show StableHlo.after [opG, opW, opB, opC] (V3 m d) (Proc.devRef .tc main_v6) = _
  after_results
  rw [V3_of m d (Proc.devRef .tc main_arg5) (by decide), V2_of m d main_arg5 (by decide)]
  rfl
theorem Vr_second : (Vr m d main_arg4 : S1024x45.Idx → Elt F .f32) = m ((d : Thread nD τ).loc main_arg4) :=
  (V7_of m d main_arg4 (by decide)).trans ((V3_of m d (Proc.devRef .tc main_arg4) (by decide)).trans (V2_of m d main_arg4 (by decide)))

end

/-! ## The result -/

/-- An entry of the kernel's result: the log-probability of the logits of the rows that the indices name. -/
theorem mlp_apply (m : (ℓ : Loc nD τ sig) → Buf (Elt Ideal) ℓ) (d : Dev nD) (x : IVec S4096x7 32) (t : FVec Ideal S100000x128 .f32)
    (w : FVec Ideal S896x1024 .f32) (b1 : FVec Ideal S1024 .f32) (w2 : FVec Ideal S1024x45 .f32) (b2 : FVec Ideal S45 .f32)
    (h0 : m ((d : Thread nD τ).loc main_arg0) = x) (h1 : m ((d : Thread nD τ).loc main_arg1) = t) (h2 : m ((d : Thread nD τ).loc main_arg2) = w)
    (h3 : m ((d : Thread nD τ).loc main_arg3) = b1) (h4 : m ((d : Thread nD τ).loc main_arg4) = w2) (h5 : m ((d : Thread nD τ).loc main_arg5) = b2)
    (b : Fin 4096) (c : Fin 45) :
    mlpOut (Vr m) d (ix2 b c)
      = Spec.logProbK (Spec.logit (fun k l => t (ix2 (rowNo (x (ix2 b k))) l)) (fun k l h => w (ix2 ⟨k.val * 128 + l.val, by omega⟩ h))
          (fun h => b1 (ix1 h)) (fun h c => w2 (ix2 h c)) (fun c => b2 (ix1 c))) c := by
  refine (block_apply _ _ _ _ _ _ _).trans (congrArg (Spec.logProbK · c) (Spec.logit_congr (fun k l => ?_) (fun k l h => ?_) (fun h => ?_) (fun h c => ?_) (fun c => ?_)))
  · have h1' : m (tLoc d) = t := h1
    rw [blk0_apply, Vr_rows, idxList_eq, h0, h1']
    refine Eq.trans (congrArg _ ?_) (rows_apply x t k b l)
    refine congrArg (fun i => ix3 k i l) (Fin.ext ?_)
    show 512 * (b.val / 512) + b.val % 512 = b.val
    omega
  · rw [scr, rounded_apply, blk1_eq, Vr_weights, h2]
    exact weights_apply w k l h
  · rw [blk2_eq, Vr_bias1, h3]
    exact bias1_apply b1 h
  · rw [blk3_eq, Vr_second, h4]
  · rw [blk4_eq, Vr_bias2, h5]
    exact bias2_apply b2 c

end Cert.Proof.K

end
-- ==== Proof.RefTake.lean ====
/-
  THE REFERENCE'S THREE TAKES, entry by entry: where every index names a row of the table, a take's entry is the table's entry
  of the row that the index names. The reference wraps a negative index, masks an index out of range and clamps the rest; none of
  this moves an index in range.
-/
module

public import proofs.«01_k».proof.Proof.Gen.ReferenceIdeal
public import Idealize.ShloMosaic.Lib.ReduceAll
public import Idealize.ShloMosaic.Lib.Pointwise

@[expose] public section

set_option maxRecDepth 16384

noncomputable section

namespace Cert.Proof.R

open Cert.ReferenceIdeal Cert.ReferenceIdeal.Gen

open Idealize.ShloMosaic

/-! ## Words -/

/-- The row of the table that a word names. -/
def row (w : BitVec 32) : Fin 100000 := ⟨w.toNat % 100000, Nat.mod_lt _ (by decide)⟩

theorem row_val (w : BitVec 32) (h : w.toNat < 100000) : (row w).val = w.toNat := Nat.mod_eq_of_lt h

/-- An index in range is not negative. -/
theorem not_negative (w : BitVec 32) (h : w.toNat < 100000) : IntOp.cmpi .slt w 0#32 = 0#1 := by
  have e : BitVec.slt w 0#32 = false := by
    rw [BitVec.slt_eq_decide, decide_eq_false_iff_not, BitVec.toInt_eq_toNat_cond]
    simp; omega
  show BitVec.ofBool (BitVec.slt w 0#32) = 0#1
  rw [e]; rfl

/-- An index in range passes the mask. -/
theorem passes (w : BitVec 32) (h : w.toNat < 100000) : IntOp.andi (IntOp.cmpi .sge w 0#32) (IntOp.cmpi .sle w 99999#32) = 1#1 := by
  have a : BitVec.sle 0#32 w = true := by
    rw [BitVec.sle_eq_decide, decide_eq_true_eq, BitVec.toInt_eq_toNat_cond, BitVec.toInt_eq_toNat_cond]
    simp; omega
  have b : BitVec.sle w 99999#32 = true := by
    rw [BitVec.sle_eq_decide, decide_eq_true_eq, BitVec.toInt_eq_toNat_cond, BitVec.toInt_eq_toNat_cond]
    simp; omega
  show IntOp.andi (BitVec.ofBool (BitVec.sle 0#32 w)) (BitVec.ofBool (BitVec.sle w 99999#32)) = 1#1
  rw [a, b]; rfl

/-- An index in range is clamped to itself. -/
theorem clamped (w : BitVec 32) (h : w.toNat < 100000) : min w.toInt.toNat (100000 - 1) = w.toNat := by
  rw [BitVec.toInt_eq_toNat_cond]
  split <;> omega

variable {F : FTy → Type} [FloatOps F]

/-! ## A take of three columns -/

/-- The indices, a negative one wrapped. -/
def wrap3 (x : IVec S4096x3 32) : IVec S4096x3 32 :=
  select (cmpi .slt x (broadcastInDim S4096x3 ![] bcast_S_S4096x3 (constantI S_ 32 0#32)))
    (addi x (broadcastInDim S4096x3 ![] bcast_S_S4096x3 (constantI S_ 32 100000#32))) x
/-- As the gather takes them. -/
def starts3 (x : IVec S4096x3 32) : IVec S4096x3x1 32 := broadcastInDim S4096x3x1 ![0, 1] bcast_S4096x3_S4096x3x1_0_1 (wrap3 x)
/-- Which of them are in range. -/
def mask3 (x : IVec S4096x3 32) : IVec S4096x3 1 :=
  Host.reduce IntOp.andi (andi (cmpi .sge (starts3 x) (broadcastInDim S4096x3x1 ![] bcast_S_S4096x3x1 (constantI S_ 32 0#32)))
    (cmpi .sle (starts3 x) (broadcastInDim S4096x3x1 ![0, 1, 2] bcast_S1x1x1_S4096x3x1_0_1_2
      (broadcastInDim S1x1x1 ![2] bcast_S1_S1x1x1_2 (constantI S1 32 99999#32))))) (constantI S_ 1 1#1) reducesTo_S4096x3x1_S4096x3_d2 h_S_
/-- The rows taken, before the mask. -/
def rows3 (t : FVec F S100000x128 .f32) (x : IVec S4096x3 32) : FVec F S4096x3x128 .f32 :=
  Host.gather gather_S100000x128_S4096x3x1_S4096x3x128_2_0_n_n_0_2_1128 t (starts3 x)
/-- The take. -/
def take3 (t : FVec F S100000x128 .f32) (x : IVec S4096x3 32) : FVec F S4096x3x128 .f32 :=
  select (broadcastInDim S4096x3x128 ![0, 1] bcast_S4096x3_S4096x3x128_0_1 (mask3 x)) (rows3 t x)
    (broadcastInDim S4096x3x128 ![] bcast_S_S4096x3x128 (constant S_ .f32 0x7FC00000#32))

theorem wrap3_apply (x : IVec S4096x3 32) (h : ∀ i, (x i).toNat < 100000) (b : Fin 4096) (k : Fin 3) : wrap3 x (ix2 b k) = x (ix2 b k) := by
  have e := not_negative _ (h (ix2 b k))
  pointwise [wrap3]
  rw [e]
  rfl

theorem starts3_apply (x : IVec S4096x3 32) (h : ∀ i, (x i).toNat < 100000) (b : Fin 4096) (k : Fin 3) (z : Fin 1) :
    starts3 x (ix3 b k z) = x (ix2 b k) := by
  pointwise [starts3]
  exact wrap3_apply x h b k

theorem mask3_apply (x : IVec S4096x3 32) (h : ∀ i, (x i).toNat < 100000) (j : S4096x3.Idx) : mask3 x j = 1#1 := by
  refine Host.reduce_andi_one _ _ _ _ _ rfl fun i => ?_
  idx_vars i
  pointwise
  rw [starts3_apply x h]
  exact passes _ (h _)

/-- The gather read at an index: the table's row at the start, clamped. -/
theorem gather3_apply (t : FVec F S100000x128 .f32) (s : IVec S4096x3x1 32) (b : Fin 4096) (k : Fin 3) (l : Fin 128) :
    Host.gather gather_S100000x128_S4096x3x1_S4096x3x128_2_0_n_n_0_2_1128 t s (ix3 b k l)
      = t (ix2 ⟨min (s (ix3 b k (0 : Fin 1))).toInt.toNat (100000 - 1), by omega⟩ l) := by
  unfold Host.gather
  refine congrArg t (funext fun a => Fin.ext ?_)
  match a with
  | ⟨0, _⟩ =>
    show (gather_S100000x128_S4096x3x1_S4096x3x128_2_0_n_n_0_2_1128).start (ix3 b k l) s 0
      + (gather_S100000x128_S4096x3x1_S4096x3x128_2_0_n_n_0_2_1128).batchCoord (ix3 b k l) 0
      + (gather_S100000x128_S4096x3x1_S4096x3x128_2_0_n_n_0_2_1128).offCoord (ix3 b k l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x128_S4096x3x1_S4096x3x128_2_0_n_n_0_2_1128).startIndexMap from List.mem_singleton.mpr rfl)]
    have e : (gather_S100000x128_S4096x3x1_S4096x3x128_2_0_n_n_0_2_1128).siIdx (ix3 b k l)
        ⟨List.idxOf (0 : Fin 2) (gather_S100000x128_S4096x3x1_S4096x3x128_2_0_n_n_0_2_1128).startIndexMap,
          List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [e]
    rfl
  | ⟨1, _⟩ =>
    show (gather_S100000x128_S4096x3x1_S4096x3x128_2_0_n_n_0_2_1128).start (ix3 b k l) s 1
      + (gather_S100000x128_S4096x3x1_S4096x3x128_2_0_n_n_0_2_1128).batchCoord (ix3 b k l) 1
      + (gather_S100000x128_S4096x3x1_S4096x3x128_2_0_n_n_0_2_1128).offCoord (ix3 b k l) 1 = l.val
    rw [GatherDims.batchCoord_eq_zero _ _ _ List.not_mem_nil]
    unfold GatherDims.start
    rw [dif_neg (show (1 : Fin 2) ∉ (gather_S100000x128_S4096x3x1_S4096x3x128_2_0_n_n_0_2_1128).startIndexMap from by decide)]
    simp only [Nat.zero_add]
    rfl

/-- An entry of the take: the table's, at the row that the index names. -/
theorem take3_apply (t : FVec F S100000x128 .f32) (x : IVec S4096x3 32) (h : ∀ i, (x i).toNat < 100000) (b : Fin 4096) (k : Fin 3) (l : Fin 128) :
    take3 t x (ix3 b k l) = t (ix2 (row (x (ix2 b k))) l) := by
  have e : rows3 t x (ix3 b k l) = t (ix2 (row (x (ix2 b k))) l) := by
    refine (gather3_apply t _ b k l).trans (congrArg (fun r => t (ix2 r l)) (Fin.ext ?_))
    rw [row_val _ (h _)]
    show min (starts3 x (ix3 b k (0 : Fin 1))).toInt.toNat (100000 - 1) = _
    rw [starts3_apply x h]
    exact clamped _ (h _)
  pointwise [take3]
  rw [mask3_apply x h]
  exact e

/-! ## A take of one column -/

/-- The indices, a negative one wrapped. -/
def wrap1 (x : IVec S4096 32) : IVec S4096 32 :=
  select (cmpi .slt x (broadcastInDim S4096 ![] bcast_S_S4096 (constantI S_ 32 0#32)))
    (addi x (broadcastInDim S4096 ![] bcast_S_S4096 (constantI S_ 32 100000#32))) x
/-- As the gather takes them. -/
def starts1 (x : IVec S4096 32) : IVec S4096x1 32 := broadcastInDim S4096x1 ![0] bcast_S4096_S4096x1_0 (wrap1 x)
/-- Which of them are in range. -/
def mask1 (x : IVec S4096 32) : IVec S4096 1 :=
  Host.reduce IntOp.andi (andi (cmpi .sge (starts1 x) (broadcastInDim S4096x1 ![] bcast_S_S4096x1 (constantI S_ 32 0#32)))
    (cmpi .sle (starts1 x) (broadcastInDim S4096x1 ![0, 1] bcast_S1x1_S4096x1_0_1
      (broadcastInDim S1x1 ![1] bcast_S1_S1x1_1 (constantI S1 32 99999#32))))) (constantI S_ 1 1#1) reducesTo_S4096x1_S4096_d1 h_S_
/-- The rows taken, before the mask. -/
def rows1 (t : FVec F S100000x128 .f32) (x : IVec S4096 32) : FVec F S4096x128 .f32 :=
  Host.gather gather_S100000x128_S4096x1_S4096x128_1_0_n_n_0_1_1128 t (starts1 x)
/-- The take. -/
def take1 (t : FVec F S100000x128 .f32) (x : IVec S4096 32) : FVec F S4096x128 .f32 :=
  select (broadcastInDim S4096x128 ![0] bcast_S4096_S4096x128_0 (mask1 x)) (rows1 t x)
    (broadcastInDim S4096x128 ![] bcast_S_S4096x128 (constant S_ .f32 0x7FC00000#32))

theorem wrap1_apply (x : IVec S4096 32) (h : ∀ i, (x i).toNat < 100000) (b : Fin 4096) : wrap1 x (ix1 b) = x (ix1 b) := by
  have e := not_negative _ (h (ix1 b))
  pointwise [wrap1]
  rw [e]
  rfl

theorem starts1_apply (x : IVec S4096 32) (h : ∀ i, (x i).toNat < 100000) (b : Fin 4096) (z : Fin 1) :
    starts1 x (ix2 b z) = x (ix1 b) := by
  pointwise [starts1]
  exact wrap1_apply x h b

theorem mask1_apply (x : IVec S4096 32) (h : ∀ i, (x i).toNat < 100000) (j : S4096.Idx) : mask1 x j = 1#1 := by
  refine Host.reduce_andi_one _ _ _ _ _ rfl fun i => ?_
  idx_vars i
  pointwise
  rw [starts1_apply x h]
  exact passes _ (h _)

/-- The gather read at an index: the table's row at the start, clamped. -/
theorem gather1_apply (t : FVec F S100000x128 .f32) (s : IVec S4096x1 32) (b : Fin 4096) (l : Fin 128) :
    Host.gather gather_S100000x128_S4096x1_S4096x128_1_0_n_n_0_1_1128 t s (ix2 b l)
      = t (ix2 ⟨min (s (ix2 b (0 : Fin 1))).toInt.toNat (100000 - 1), by omega⟩ l) := by
  unfold Host.gather
  refine congrArg t (funext fun a => Fin.ext ?_)
  match a with
  | ⟨0, _⟩ =>
    show (gather_S100000x128_S4096x1_S4096x128_1_0_n_n_0_1_1128).start (ix2 b l) s 0
      + (gather_S100000x128_S4096x1_S4096x128_1_0_n_n_0_1_1128).batchCoord (ix2 b l) 0
      + (gather_S100000x128_S4096x1_S4096x128_1_0_n_n_0_1_1128).offCoord (ix2 b l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x128_S4096x1_S4096x128_1_0_n_n_0_1_1128).startIndexMap from List.mem_singleton.mpr rfl)]
    have e : (gather_S100000x128_S4096x1_S4096x128_1_0_n_n_0_1_1128).siIdx (ix2 b l)
        ⟨List.idxOf (0 : Fin 2) (gather_S100000x128_S4096x1_S4096x128_1_0_n_n_0_1_1128).startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [e]
    rfl
  | ⟨1, _⟩ =>
    show (gather_S100000x128_S4096x1_S4096x128_1_0_n_n_0_1_1128).start (ix2 b l) s 1
      + (gather_S100000x128_S4096x1_S4096x128_1_0_n_n_0_1_1128).batchCoord (ix2 b l) 1
      + (gather_S100000x128_S4096x1_S4096x128_1_0_n_n_0_1_1128).offCoord (ix2 b l) 1 = l.val
    rw [GatherDims.batchCoord_eq_zero _ _ _ List.not_mem_nil]
    unfold GatherDims.start
    rw [dif_neg (show (1 : Fin 2) ∉ (gather_S100000x128_S4096x1_S4096x128_1_0_n_n_0_1_1128).startIndexMap from by decide)]
    simp only [Nat.zero_add]
    rfl

/-- An entry of the take: the table's, at the row that the index names. -/
theorem take1_apply (t : FVec F S100000x128 .f32) (x : IVec S4096 32) (h : ∀ i, (x i).toNat < 100000) (b : Fin 4096) (l : Fin 128) :
    take1 t x (ix2 b l) = t (ix2 (row (x (ix1 b))) l) := by
  have e : rows1 t x (ix2 b l) = t (ix2 (row (x (ix1 b))) l) := by
    refine (gather1_apply t _ b l).trans (congrArg (fun r => t (ix2 r l)) (Fin.ext ?_))
    rw [row_val _ (h _)]
    show min (starts1 x (ix2 b (0 : Fin 1))).toInt.toNat (100000 - 1) = _
    rw [starts1_apply x h]
    exact clamped _ (h _)
  pointwise [take1]
  rw [mask1_apply x h]
  exact e

end Cert.Proof.R

end
-- ==== Proof.RefValue.lean ====
/-
  THE REFERENCE'S VALUE, entry by entry: the rows that three takes gather, side by side, against the whole of the weights, are
  seven rows against seven slabs.
-/
module

public import proofs.«01_k».proof.Proof.RefTake
public import proofs.«01_k».proof.Proof.Spec
public import proofs.«01_k».proof.Proof.Gen.ReferenceIdeal.Run
public import Idealize.ShloMosaic.Lib.Pointwise

@[expose] public section

set_option maxRecDepth 16384

noncomputable section

namespace Cert.Proof.R

open Cert.ReferenceIdeal Cert.ReferenceIdeal.Gen

open Idealize.ShloMosaic Idealize.ShloMosaic.TcCoe

/-! ## The reference's stages -/

/-- The gathered rows, side by side. -/
def cat (x : IVec S4096x7 32) (t : FVec Ideal S100000x128 .f32) : FVec Ideal S4096x896 .f32 :=
  concatenate S4096x896 1 [⟨S4096x384, shapeCast _ (take3 t (extractStridedSlice S4096x3 ![0, 0] x slices_S4096x7_S4096x3_0_0)) shapeCasts_S4096x3x128_S4096x384⟩,
    ⟨S4096x128, take1 t (shapeCast _ (extractStridedSlice S4096x1 ![0, 3] x slices_S4096x7_S4096x1_0_3) shapeCasts_S4096x1_S4096)⟩,
    ⟨S4096x384, shapeCast _ (take3 t (extractStridedSlice S4096x3 ![0, 4] x slices_S4096x7_S4096x3_0_4)) shapeCasts_S4096x3x128_S4096x384⟩]
    concatenates_S4096x384_S4096x128_S4096x384_S4096x896_d1
/-- The hidden layer. -/
def hid (e : FVec Ideal S4096x896 .f32) (w : FVec Ideal S896x1024 .f32) (b : FVec Ideal S1024 .f32) : FVec Ideal S4096x1024 .f32 :=
  maximumf (addf (Host.dotGeneral dot_S4096x896_S896x1024_S4096x1024_1_0_0_1_n_n none e w)
    (broadcastInDim S4096x1024 ![0, 1] bcast_S1x1024_S4096x1024_0_1 (broadcastInDim S1x1024 ![1] bcast_S1024_S1x1024_1 b)))
    (broadcastInDim S4096x1024 ![] bcast_S_S4096x1024 (constant S_ .f32 0x00000000#32))
/-- The logits. -/
def lgs (z : FVec Ideal S4096x1024 .f32) (w2 : FVec Ideal S1024x45 .f32) (b2 : FVec Ideal S45 .f32) : FVec Ideal S4096x45 .f32 :=
  addf (Host.dotGeneral dot_S4096x1024_S1024x45_S4096x45_1_0_0_1_n_n none z w2)
    (broadcastInDim S4096x45 ![0, 1] bcast_S1x45_S4096x45_0_1 (broadcastInDim S1x45 ![1] bcast_S45_S1x45_1 b2))
/-- The logits, each row's greatest taken off. -/
def shifted (L : FVec Ideal S4096x45 .f32) : FVec Ideal S4096x45 .f32 :=
  subf L (broadcastInDim S4096x45 ![0, 1] bcast_S4096x1_S4096x45_0_1 (broadcastInDim S4096x1 ![0] bcast_S4096_S4096x1_0
    (maximumf (broadcastInDim S4096 ![] bcast_S_S4096 (constant S_ .f32 0xFF800000#32))
      (Host.reduce FloatOps.maximumf L (constant S_ .f32 0xFF800000#32) reducesTo_S4096x45_S4096_d1 h_S_))))
/-- The log-probabilities. -/
def lsm (L : FVec Ideal S4096x45 .f32) : FVec Ideal S4096x45 .f32 :=
  subf (shifted L) (broadcastInDim S4096x45 ![0, 1] bcast_S4096x1_S4096x45_0_1 (Host.log (broadcastInDim S4096x1 ![0] bcast_S4096_S4096x1_0
    (Host.reduceAdd (Host.exp (shifted L)) (constant S_ .f32 0x00000000#32) reducesTo_S4096x45_S4096_d1 h_S_))))
/-- The reference's result. -/
def refOut (x : IVec S4096x7 32) (t : FVec Ideal S100000x128 .f32) (w : FVec Ideal S896x1024 .f32) (b : FVec Ideal S1024 .f32)
    (w2 : FVec Ideal S1024x45 .f32) (b2 : FVec Ideal S45 .f32) : FVec Ideal S4096x45 .f32 := lsm (lgs (hid (cat x t) w b) w2 b2)

/-- The reference ends with it. -/
theorem res_eq (m : (ℓ : Loc nD τ sig) → Buf (Elt Ideal) ℓ) (c : Dev nD) :
    Cert.ReferenceIdeal.Value.res_main_v19 (F := Ideal) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := rfl

/-! ## Entry by entry -/

theorem hid_apply (e : FVec Ideal S4096x896 .f32) (w : FVec Ideal S896x1024 .f32) (b : FVec Ideal S1024 .f32) (r : Fin 4096) (h : Fin 1024) :
    hid e w b (ix2 r h) = max (∑ k : Fin 896, e (ix2 r k) * w (ix2 k h) + b (ix1 h)) 0 := by
  pointwise [hid]

theorem lgs_apply (z : FVec Ideal S4096x1024 .f32) (w2 : FVec Ideal S1024x45 .f32) (b2 : FVec Ideal S45 .f32) (r : Fin 4096) (c : Fin 45) :
    lgs z w2 b2 (ix2 r c) = ∑ h : Fin 1024, z (ix2 r h) * w2 (ix2 h c) + b2 (ix1 c) := by
  pointwise [lgs]

theorem shifted_apply (L : FVec Ideal S4096x45 .f32) (r : Fin 4096) (c : Fin 45) :
    shifted L (ix2 r c) = L (ix2 r c) - Spec.peak (fun c => L (ix2 r c)) := by
  rw [← Spec.max_peak]
  pointwise [shifted, Spec.peak]

theorem lsm_apply (L : FVec Ideal S4096x45 .f32) (r : Fin 4096) (c : Fin 45) :
    lsm L (ix2 r c) = Spec.logProbR (fun c => L (ix2 r c)) c := by
  pointwise [lsm]
  simp only [shifted_apply]
  simp only [Spec.logProbR, Spec.mass, zero_add]

/-- Three columns of the indices from the first. -/
theorem lo_apply (x : IVec S4096x7 32) (r : Fin 4096) (k : Fin 3) :
    extractStridedSlice S4096x3 ![0, 0] x slices_S4096x7_S4096x3_0_0 (ix2 r k) = x (ix2 r ⟨k.val, by omega⟩) := by
  pointwise
/-- Three columns of the indices from the fifth. -/
theorem hi_apply (x : IVec S4096x7 32) (r : Fin 4096) (k : Fin 3) :
    extractStridedSlice S4096x3 ![0, 4] x slices_S4096x7_S4096x3_0_4 (ix2 r k) = x (ix2 r ⟨4 + k.val, by omega⟩) := by
  pointwise
/-- The fourth column of the indices. -/
theorem mid_apply (x : IVec S4096x7 32) (r : Fin 4096) :
    shapeCast S4096 (extractStridedSlice S4096x1 ![0, 3] x slices_S4096x7_S4096x1_0_3) shapeCasts_S4096x1_S4096 (ix1 r) = x (ix2 r 3) := by
  pointwise

theorem lo_below (x : IVec S4096x7 32) (hx : ∀ i, (x i).toNat < 100000) (i : S4096x3.Idx) :
    (extractStridedSlice S4096x3 ![0, 0] x slices_S4096x7_S4096x3_0_0 i).toNat < 100000 := by
  idx_vars i; rw [lo_apply]; exact hx _
theorem hi_below (x : IVec S4096x7 32) (hx : ∀ i, (x i).toNat < 100000) (i : S4096x3.Idx) :
    (extractStridedSlice S4096x3 ![0, 4] x slices_S4096x7_S4096x3_0_4 i).toNat < 100000 := by
  idx_vars i; rw [hi_apply]; exact hx _
theorem mid_below (x : IVec S4096x7 32) (hx : ∀ i, (x i).toNat < 100000) (i : S4096.Idx) :
    (shapeCast S4096 (extractStridedSlice S4096x1 ![0, 3] x slices_S4096x7_S4096x1_0_3) shapeCasts_S4096x1_S4096 i).toNat < 100000 := by
  idx_vars i; rw [mid_apply]; exact hx _

/-- Column `128 k + l` of the gathered rows: column `l` of the row that index `k` names. -/
theorem cat_apply (x : IVec S4096x7 32) (hx : ∀ i, (x i).toNat < 100000) (t : FVec Ideal S100000x128 .f32) (r : Fin 4096) (k : Fin 7) (l : Fin 128)
    (n : Fin 896) (hn : n.val = k.val * 128 + l.val) : cat x t (ix2 r n) = t (ix2 (row (x (ix2 r k))) l) := by
  have hl := l.isLt
  pointwise [cat]
  by_cases h1 : n.val < 384
  · refine (dif_pos h1).trans ?_
    rw [take3_apply t _ (lo_below x hx), lo_apply]
    refine congrArg₂ (fun a b => t (ix2 (row (x (ix2 r a))) b)) (Fin.ext ?_) (Fin.ext ?_)
    · show n.val / 128 = k.val; omega
    · show n.val % 128 = l.val; omega
  refine (dif_neg h1).trans ?_
  by_cases h2 : n.val - 384 < 128
  · refine (dif_pos h2).trans ?_
    rw [take1_apply t _ (mid_below x hx), mid_apply]
    refine congrArg₂ (fun a b => t (ix2 (row (x (ix2 r a))) b)) (Fin.ext ?_) (Fin.ext ?_)
    · show 3 = k.val; omega
    · show n.val - 384 = l.val; omega
  · refine (dif_neg h2).trans ?_
    rw [take3_apply t _ (hi_below x hx), hi_apply]
    refine congrArg₂ (fun a b => t (ix2 (row (x (ix2 r a))) b)) (Fin.ext ?_) (Fin.ext ?_)
    · show 4 + (n.val - 384 - 128) / 128 = k.val; omega
    · show (n.val - 384 - 128) % 128 = l.val; omega

/-- The gathered rows against a column of the weights: seven rows against seven slabs. -/
theorem cat_dot (x : IVec S4096x7 32) (hx : ∀ i, (x i).toNat < 100000) (t : FVec Ideal S100000x128 .f32) (w : FVec Ideal S896x1024 .f32) (r : Fin 4096) (h : Fin 1024) :
    ∑ k : Fin 896, cat x t (ix2 r k) * w (ix2 k h)
      = ∑ k : Fin 7, ∑ l : Fin 128, t (ix2 (row (x (ix2 r k))) l) * w (ix2 ⟨k.val * 128 + l.val, by omega⟩ h) := by
  refine (Fin.sum_univ_tiles 7 128 rfl (fun k : Fin 896 => cat x t (ix2 r k) * w (ix2 k h))).trans ?_
  exact Finset.sum_congr rfl fun k _ => Finset.sum_congr rfl fun l _ => congrArg (· * _) (cat_apply x hx t r k l _ rfl)

/-- An entry of the reference's result. -/
theorem refOut_apply (x : IVec S4096x7 32) (hx : ∀ i, (x i).toNat < 100000) (t : FVec Ideal S100000x128 .f32) (w : FVec Ideal S896x1024 .f32)
    (b : FVec Ideal S1024 .f32) (w2 : FVec Ideal S1024x45 .f32) (b2 : FVec Ideal S45 .f32) (r : Fin 4096) (c : Fin 45) :
    refOut x t w b w2 b2 (ix2 r c)
      = Spec.logProbR (Spec.logit (fun k l => t (ix2 (row (x (ix2 r k))) l)) (fun k l h => w (ix2 ⟨k.val * 128 + l.val, by omega⟩ h))
          (fun h => b (ix1 h)) (fun h c => w2 (ix2 h c)) (fun c => b2 (ix1 c))) c := by
  refine (lsm_apply _ r c).trans (congrArg (Spec.logProbR · c) (funext fun c => ?_))
  rw [lgs_apply]
  unfold Spec.logit Spec.hidden
  refine congrArg (· + _) (Finset.sum_congr rfl fun h _ => congrArg (· * _) ?_)
  rw [hid_apply, cat_dot x hx]

end Cert.Proof.R

end
-- ==== Proof.Geometry.lean ====
/-
  WHERE THE TASK'S VIEWS LIE: a task's block of the index list and of the result, the rows of its scratch that each of the
  seven gathers fills, the list entries they read, and what one gathered row leaves in the scratch.
-/
module

public import proofs.«01_k».proof.Proof.Common
public import Idealize.ShloMosaic.Lib.Pipeline.ValueKit.Geometry

@[expose] public section

set_option maxRecDepth 16384

noncomputable section

namespace Cert.Proof.K

open Cert.KernelIdeal Cert.KernelIdeal.Gen

open Idealize.ShloMosaic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ
local notation "iV" => (Memref.whole Cert.KernelIdeal.main_v1_scv : Memref Cert.KernelIdeal.sig Kind.scVector Space.hbm Cert.KernelIdeal.S32x7x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S28672x128 EltTy.f32)
local notation "sV" => (Memref.whole Cert.KernelIdeal.cc0_scratch0 : Memref Cert.KernelIdeal.sig Kind.scVector Space.vmem Cert.KernelIdeal.S7x128 EltTy.i32)
local notation "rV" => (Memref.whole Cert.KernelIdeal.cc0_scratch1 : Memref Cert.KernelIdeal.sig Kind.scVector Space.vmem Cert.KernelIdeal.S896x128 EltTy.f32)

/-! ## The blocks of the index list and of the result -/

variable (L : grid0.Coords)

theorem bound_zero : grid0.bound 0 = 2 := rfl
theorem bound_one : grid0.bound 1 = 16 := rfl
/-- The number of the task at coordinates `L`. -/
abbrev wL (L : grid0.Coords) : Fin 32 := wid (Fin.cast bound_zero (L 0)) (Fin.cast bound_one (L 1))

abbrev iRectK (L : grid0.Coords) : Rect S32x7x128 := Rect.unit (s := S32x7x128) (k0_off1 L) S1x7x128.size (k0_off1_inb L)
abbrev oRectK (L : grid0.Coords) : Rect S28672x128 := Rect.unit (s := S28672x128) (k0_off2 L) S896x128.size (k0_off2_inb L)
/-- Its block of the index list, as it addresses it. -/
abbrev iBlk (L : grid0.Coords) : Memref sig .scVector .hbm S7x128 .i32 :=
  ((iV).slice (iRectK L) (fun _ => rfl)).squeeze S7x128 squeezes_S1x7x128_S7x128
/-- Its block of the result, as it addresses it. -/
abbrev oBlk (L : grid0.Coords) : Memref sig .scVector .hbm S896x128 .f32 := (oV).slice (oRectK L) (fun _ => rfl)

theorem off1_val : k0_off1 L = ![(wL L).val, 0, 0] := k0_off1_eq L
theorem off2_val : k0_off2 L = ![896 * (wL L).val, 0] := by
  rw [k0_off2_eq]
  congr 1
  show 1792 * (L 1).val + 896 * (L 0).val = 896 * (2 * (L 1).val + (L 0).val)
  omega

theorem set_iBlk : (iBlk L).view.set = iSet (wL L) := by
  show (((View.whole main_v1_scv).slice (iRectK L)).reshape S7x128 squeezes_S1x7x128_S7x128.numel_eq).set = _
  rw [View.set_reshape, View.set_slice_whole]
  ext x
  rw [Rect.mem_set_unit, off1_val]
  simp only [iSet, Finset.mem_filter, Finset.mem_univ, _root_.true_and]
  constructor
  · intro h
    exact Nat.le_antisymm (Nat.le_of_lt_succ (h 0).2) (h 0).1
  · intro h a
    match a with
    | 0 => exact ⟨h.ge, Nat.lt_succ_of_le h.le⟩
    | 1 => exact ⟨Nat.zero_le _, by rw [show (![(wL L).val, 0, 0] : Fin 3 → ℕ) 1 = 0 from rfl, Nat.zero_add]; exact (x 1).isLt⟩
    | 2 => exact ⟨Nat.zero_le _, by rw [show (![(wL L).val, 0, 0] : Fin 3 → ℕ) 2 = 0 from rfl, Nat.zero_add]; exact (x 2).isLt⟩

/-- The numbers whose quotient by 896 is `w`. -/
theorem div_iff (w x : ℕ) : (896 * w ≤ x ∧ x < 896 * w + 896) ↔ x / 896 = w := by omega

theorem set_oBlk : (oBlk L).view.set = oSet (wL L) := by
  show ((View.whole main_v2_scv).slice (oRectK L)).set = _
  rw [View.set_slice_whole]
  ext x
  rw [Rect.mem_set_unit, off2_val]
  simp only [oSet, Finset.mem_filter, Finset.mem_univ, _root_.true_and]
  constructor
  · intro h
    exact (div_iff _ _).mp (h 0)
  · intro h a
    match a with
    | 0 =>
      exact (div_iff _ _).mpr h
    | 1 => exact ⟨Nat.zero_le _, by rw [show (![896 * (wL L).val, 0] : Fin 2 → ℕ) 1 = 0 from rfl, Nat.zero_add]; exact (x 1).isLt⟩

/-- Row `j 0` of the task's block of the index list is at place `(w, j 0)` of the list. -/
theorem emb_iBlk (j : S7x128.Idx) : (iBlk L).view.emb j = ix3 (n0 := 32) (n1 := 7) (n2 := 128) (wL L) (j 0) (j 1) := by
  show (((View.whole main_v1_scv).slice (iRectK L)).reshape S7x128 squeezes_S1x7x128_S7x128.numel_eq).emb j = _
  rw [View.emb_reshape]
  show ((View.whole main_v1_scv).slice (iRectK L)).emb (Shape.reshapeEquiv _ j) = _
  rw [Shape.reshapeEquiv_eq_of_rowMajor (y := (ix3 (n0 := 1) (n1 := 7) (n2 := 128) 0 (j 0) (j 1) : (iRectK L).shape.Idx)) _ (by
    rw [Shape.rowMajor_val_two]
    refine (Shape.rowMajor_val_three _).trans ?_
    simp [ix3])]
  funext a
  refine Fin.ext ?_
  refine (ValueKit.rect_emb_unit_val _ _ (k0_off1_inb L) _ a).trans ?_
  match a with
  | 0 => exact congrFun (off1_val L) 0
  | 1 => exact (congrArg (· + (j 0).val) (congrFun (off1_val L) 1)).trans (Nat.zero_add _)
  | 2 => exact (congrArg (· + (j 1).val) (congrFun (off1_val L) 2)).trans (Nat.zero_add _)

/-- Row `j 0` of the task's block of the result is row `896 w + j 0` of the result. -/
theorem emb_oBlk (j : S896x128.Idx) : (oBlk L).view.emb j
    = ix2 (n0 := 28672) (n1 := 128) ⟨896 * (wL L).val + (j 0).val, by have : (j 0).val < 896 := (j 0).isLt; omega⟩ (j 1) := by
  funext a
  refine Fin.ext ?_
  refine (ValueKit.rect_emb_unit_val _ _ (k0_off2_inb L) _ a).trans ?_
  match a with
  | 0 => exact congrArg (· + (j 0).val) (congrFun (off2_val L) 0)
  | 1 => exact (congrArg (· + (j 1).val) (congrFun (off2_val L) 1)).trans (Nat.zero_add _)

/-! ## The rows of the scratch and the entries of the list -/

/-- Row `t` of the scratch. -/
def rowSet (t : Fin 896) : Finset S896x128.Idx := Finset.univ.filter fun x => (x 0).val = t.val
/-- The list's entry for row `t`. -/
abbrev entry (t : Fin 896) : S7x128.Idx := ix2 (n0 := 7) (n1 := 128) ⟨t.val / 128, by omega⟩ ⟨t.val % 128, by omega⟩

/-- The whole table, as each gather addresses it. -/
abbrev gSrc : Memref sig .scVector .hbm S100000x128 .f32 :=
  (tV).slice (Rect.unit (s := S100000x128) ![0, 0] S100000x128.size inb_S100000x128_S100000x128_0_0) (fun _ => rfl)
/-- The 128 rows of the scratch from row `o` on. -/
abbrev gDst (o : ℕ) (h : ∀ a, (![o, 0] : Fin 2 → ℕ) a + S128x128.size a ≤ S896x128.size a) : Memref sig .scVector .vmem S128x128 .f32 :=
  (rV).slice (Rect.unit (s := S896x128) ![o, 0] S128x128.size h) (fun _ => rfl)
/-- Row `o` of the list. -/
abbrev gOff (o : ℕ) (h : ∀ a, (![o, 0] : Fin 2 → ℕ) a + S1x128.size a ≤ S7x128.size a) : Memref sig .scVector .vmem S128 .i32 :=
  ((sV).slice (Rect.unit (s := S7x128) ![o, 0] S1x128.size h) (fun _ => rfl)).squeeze S128 squeezes_S1x128_S128

local notation "hg" => (gathers_S100000x128_S128x128 : S100000x128.Gathers 0 S128x128)

theorem set_gSrc : (gSrc).view.set = Finset.univ := by
  show ((View.whole main_arg1_scv).slice (Rect.unit (s := S100000x128) ![0, 0] S100000x128.size inb_S100000x128_S100000x128_0_0)).set = _
  rw [View.set_slice_whole]
  ext x
  rw [Rect.mem_set_unit]
  simp only [Finset.mem_univ, iff_true]
  intro a
  match a with
  | 0 => exact ⟨Nat.zero_le _, by rw [show (![0, 0] : Fin 2 → ℕ) 0 = 0 from rfl, Nat.zero_add]; exact (x 0).isLt⟩
  | 1 => exact ⟨Nat.zero_le _, by rw [show (![0, 0] : Fin 2 → ℕ) 1 = 0 from rfl, Nat.zero_add]; exact (x 1).isLt⟩

theorem emb_gSrc (x : S100000x128.Idx) : (gSrc).view.emb x = x := by
  funext a
  refine Fin.ext ?_
  refine (ValueKit.rect_emb_unit_val _ _ inb_S100000x128_S100000x128_0_0 _ a).trans ?_
  match a with
  | 0 => exact Nat.zero_add _
  | 1 => exact Nat.zero_add _

/-- Row `r` of the 128 from row `o` on is row `o + r`. -/
theorem set_gDst_row (o : ℕ) (h) (r : Fin (S128x128.size (hg).axis')) (t : Fin 896) (ht : t.val = o + r.val) :
    ((gDst o h).view.slice (S128x128.rowRect (hg).axis' r)).set = rowSet t := by
  have hrow : ∀ r' : Fin (S128x128.size (hg).axis'), ∀ x, x ∈ ((gDst o h).view.slice (S128x128.rowRect (hg).axis' r')).set → (x 0 : ℕ) = o + r'.val := by
    intro r' x hx
    obtain ⟨y, rfl⟩ := View.exists_of_mem_set_slice hx
    refine (ValueKit.rect_emb_unit_val _ _ h _ 0).trans ?_
    have hy : (y 0).val < 1 := (y 0).isLt
    show (o : ℕ) + _ = _
    congr 1
    refine (Rect.emb_apply _ _ _).trans ?_
    show r'.val + 1 * (y 0).val = r'.val
    omega
  ext x
  simp only [rowSet, Finset.mem_filter, Finset.mem_univ, _root_.true_and]
  refine ⟨fun hx => (hrow r x hx).trans ht.symm, fun hx => ?_⟩
  have hm : x ∈ (gDst o h).view.set := by
    show x ∈ ((View.whole cc0_scratch1).slice (Rect.unit (s := S896x128) ![o, 0] S128x128.size h)).set
    rw [View.set_slice_whole, Rect.mem_set_unit]
    have hr : r.val < 128 := r.isLt
    intro a
    match a with
    | 0 =>
      show o ≤ (x 0).val ∧ (x 0).val < o + 128
      omega
    | 1 => exact ⟨Nat.zero_le _, by rw [show (![o, 0] : Fin 2 → ℕ) 1 = 0 from rfl, Nat.zero_add]; exact (x 1).isLt⟩
  rw [View.set_eq_biUnion_rows _ (hg).axis'] at hm
  obtain ⟨r', -, hr'⟩ := Finset.mem_biUnion.mp hm
  have : r' = r := Fin.ext (by have := hrow r' x hr'; omega)
  exact this ▸ hr'

/-- Entry `x` of row `o` of the list. -/
theorem emb_gOff (o : ℕ) (h) (x : S128.Idx) (t : Fin 896) (ht : t.val = 128 * o + (x 0).val) :
    (gOff o h).view.emb x = entry t := by
  have hx : (x 0).val < 128 := (x 0).isLt
  show (((View.whole cc0_scratch0).slice (Rect.unit (s := S7x128) ![o, 0] S1x128.size h)).reshape S128 squeezes_S1x128_S128.numel_eq).emb x = _
  rw [View.emb_reshape]
  show ((View.whole cc0_scratch0).slice (Rect.unit (s := S7x128) ![o, 0] S1x128.size h)).emb (Shape.reshapeEquiv _ x) = _
  rw [Shape.reshapeEquiv_eq_of_rowMajor (y := (ix2 (n0 := 1) (n1 := 128) 0 (x 0) : (Rect.unit (s := S7x128) ![o, 0] S1x128.size h).shape.Idx)) _ (by
    rw [Shape.rowMajor_val_one]
    refine (Shape.rowMajor_val_two _).trans ?_
    simp [ix2])]
  funext a
  refine Fin.ext ?_
  refine (ValueKit.rect_emb_unit_val _ _ h _ a).trans ?_
  match a with
  | 0 => show o + 0 = t.val / 128; omega
  | 1 => show 0 + (x 0).val = t.val % 128; omega

end Cert.Proof.K

end
-- ==== Proof.Gathers.lean ====
/-
  THE SEVEN GATHERS OF A TASK, AS ONE BATCH OF 896 ROWS: what a row needs before it is issued, what it leaves, and the
  rule that issues the gather whose rows start at a given row.
-/
module

public import proofs.«01_k».proof.Proof.Geometry

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "tV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S7x128 EltTy.i32)
local notation "rV" => (Memref.whole Cert.KernelIdeal.cc0_scratch1 : Memref Cert.KernelIdeal.sig Kind.scVector Space.vmem Cert.KernelIdeal.S896x128 EltTy.f32)
local notation "gth" => (gathers_S100000x128_S128x128 : S100000x128.Gathers 0 S128x128)

/-- The rows of the table that the list `fo` names, in the order of the list. -/
abbrev rowsOf (fo : S7x128.Idx → BitVec 32) (ft : S100000x128.Idx → Elt F .f32) : S896x128.Idx → Elt F .f32 :=
  fun x => ft (ix2 (n0 := 100000) (n1 := 128) (rowNo (fo (entry (x 0)))) (x 1))

variable (d : Dev nD) (L : grid0.Coords)

abbrev cV (L : grid0.Coords) : Fin τ.nSC := (L 0).castLE hcore0
abbrev jV (L : grid0.Coords) : Fin τ.nSub := (L 1).castLE hsub0

/-- A row of the batch: its row of the scratch at contents `fr`, its entry of the list, its piece of the share `q` of the
    table. Before it is issued the row is at the scratch's old contents, after it has landed at `rowsOf`. -/
abbrev rowR (q : PosShare TreeShare) (fr : S896x128.Idx → Elt F .f32) (fo : S7x128.Idx → BitVec 32) (ft : S100000x128.Idx → Elt F .f32)
    (t : Fin 896) : sProp 𝕄 :=
  iprop((((rV).view.loc (V d (cV L) (jV L)) ↦[rowSet t]{fullShare} fr) ∗ ((sV).view.loc (V d (cV L) (jV L)) ↦[{entry t}]{fullShare} fo))
    ∗ ((tV).view.loc (V d (cV L) (jV L)) ↦[Finset.univ]{pieceOf q 896 (by decide) t} ft))

/-- One row's credit. -/
abbrev rowCredit : ℕ :=
  ((gDst 0 inb_S896x128_S128x128_0_0).slice (S128x128.rowRect (gth).axis' ⟨0, by decide⟩) (S128x128.stride_rowRect (gth).axis' ⟨0, by decide⟩)).view.dmaCredit

theorem row_credit (o : ℕ) (h) (j) :
    ((gDst o h).slice (S128x128.rowRect (gth).axis' j) (S128x128.stride_rowRect (gth).axis' j)).view.dmaCredit = rowCredit := rfl

theorem rowCredit_pos : 0 < rowCredit := by decide

theorem gather_credit (o : ℕ) (h) : (gDst o h).view.dmaCredit = 128 * rowCredit := by
  rw [show (gDst o h).view.dmaCredit = (gDst 0 inb_S896x128_S128x128_0_0).view.dmaCredit from rfl]
  decide

/-- The entry a gather's row `j` reads, as an index of the row of the list. -/
theorem symm_val (hn : S128.numel = S128x128.size (gth).axis') (j : Fin (S128x128.size (gth).axis')) :
    ((S128.rowMajor.symm (j.cast hn.symm)) 0 : ℕ) = j.val := by
  have e : (S128.rowMajor (S128.rowMajor.symm (j.cast hn.symm)) : ℕ) = j.val := by rw [Equiv.apply_symm_apply]; rfl
  exact (Shape.rowMajor_val_one _).symm.trans e

/-- What a landed row holds, element by element. -/
theorem landed (o5 o6 : ℕ) (h5) (h6) (ho : o6 = 128 * o5) (fr : S896x128.Idx → Elt F .f32) (fo : S7x128.Idx → BitVec 32) (ft : S100000x128.Idx → Elt F .f32)
    (hn : S128.numel = S128x128.size (gth).axis')
    (hin : ∀ x, ((gOff o5 h5).view.read (Elt F) fo x).toNat < S100000x128.size (gth).axis) (j : Fin (S128x128.size (gth).axis'))
    (t : Fin 896) (ht : t.val = o6 + j.val) :
    ∀ i ∈ rowSet t, ((gDst o6 h6).view.slice (S128x128.rowRect (gth).axis' j)).write (Elt F) fr
        (fun i => (gSrc).view.read (Elt F) ft ((gth).rowIdx (SparseCore.rows ((gOff o5 h5).view.read (Elt F) fo) hn hin j) i)) Finset.univ i
      = rowsOf fo ft i := by
  intro i hi
  have hit : (i 0 : ℕ) = t.val := by simpa [rowSet] using hi
  rw [← set_gDst_row o6 h6 j t ht] at hi
  obtain ⟨y, -, rfl⟩ := Finset.mem_map.mp hi
  refine (View.write_emb_of_mem (v := (gDst o6 h6).view.slice (S128x128.rowRect (gth).axis' j)) fr _ (Finset.mem_univ y)).trans ((cast_eq _ _).trans ?_)
  refine (View.read_apply _ _).trans ((cast_eq _ _).trans ?_)
  rw [emb_gSrc]
  refine congrArg ft ?_
  have hread : ∀ x, (gOff o5 h5).view.read (Elt F) fo x = fo ((gOff o5 h5).view.emb x) := fun x => (View.read_apply _ _).trans (cast_eq _ _)
  have hw : (SparseCore.rows ((gOff o5 h5).view.read (Elt F) fo) hn hin j).val = (fo (entry t)).toNat := by
    show ((gOff o5 h5).view.read (Elt F) fo (S128.rowMajor.symm (j.cast hn.symm))).toNat = _
    rw [hread, emb_gOff o5 h5 _ t (by rw [symm_val hn j]; omega)]
  have hlt : (fo (entry t)).toNat < 100000 := by
    rw [← hw]; exact (SparseCore.rows ((gOff o5 h5).view.read (Elt F) fo) hn hin j).isLt
  have het : entry (((gDst o6 h6).view.slice (S128x128.rowRect (gth).axis' j)).emb y 0) = entry t := congrArg entry (Fin.ext hit)
  funext b
  refine Fin.ext ?_
  match b with
  | 0 =>
    refine (congrArg Fin.val ((gth).rowIdx_axis _ y)).trans (hw.trans ?_)
    show _ = (rowNo (fo (entry (((gDst o6 h6).view.slice (S128x128.rowRect (gth).axis' j)).emb y 0)))).val
    rw [het]
    exact (Nat.mod_eq_of_lt hlt).symm
  | 1 =>
    refine ((gth).rowIdx_of_ne _ y 1 (by decide)).trans ?_
    show (y 1).val = ((((gDst o6 h6).view.slice (S128x128.rowRect (gth).axis' j)).emb y) 1 : ℕ)
    symm
    refine (ValueKit.rect_emb_unit_val _ _ h6 _ 1).trans ?_
    show 0 + _ = _
    rw [Nat.zero_add]
    refine (Rect.emb_apply _ _ _).trans ?_
    show 0 + 1 * (y 1).val = (y 1).val
    omega

/-- Issuing the gather whose rows are the batch's from row `o6 = 128 * o5` on, by row `o5` of the list. -/
theorem wp_tileGather {α : Type} {Q : α → sProp 𝕄} (o5 o6 : ℕ) (h5) (h6) (ho : o6 = 128 * o5) (hle : o6 + 128 ≤ 896) (q : PosShare TreeShare)
    (fr : S896x128.Idx → Elt F .f32) (fo : S7x128.Idx → BitVec 32) (ft : S100000x128.Idx → Elt F .f32) (hfo : ∀ x, (fo x).toNat < 100000)
    {sem : DmaSem sig} {hp : (V d (cV L) (jV L)).2.kind = .scVector} {hn : S128.numel = S128x128.size (gth).axis'}
    {hsrc : (gSrc).view.WordExact} {he : EltTy.f32.bits = 32} {hsp : Space.hbm = .hbm ∨ Space.hbm = .shared} {hr : S100000x128.StreamRows 0}
    {k : PUnit → Prog (TpuEff nD τ sig (Elt F) Λ₀ (V d (cV L) (jV L)).2) α} :
    iprop(Transfers.Batch countersEmb (V d (cV L) (jV L)) (.dma sem) (default : HIx 1) rowCredit (rowR d L q (rowsOf fo ft) fo ft) o6 0
        ∗ bigSep (Transfers.pending o6) (rowR d L q fr fo ft))
      ⊢ iprop((iprop(Transfers.Batch countersEmb (V d (cV L) (jV L)) (.dma sem) (default : HIx 1) rowCredit (rowR d L q (rowsOf fo ft) fo ft) (o6 + 128) 0
              ∗ bigSep (Transfers.pending (o6 + 128)) (rowR d L q fr fo ft))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp gSrc (gDst o6 h6) gth (gOff o5 h5) hn sem hsrc he hsp hr >>= k) Q) := by
  have hread : ∀ x, (gOff o5 h5).view.read (Elt F) fo x = fo ((gOff o5 h5).view.emb x) := fun x => (View.read_apply _ _).trans (cast_eq _ _)
  have hin : ∀ x, ((gOff o5 h5).view.read (Elt F) fo x).toNat < S100000x128.size (gth).axis := fun x => by
    rw [hread]; exact hfo _
  refine GatherBatch.wp_gather countersEmb 𝒱₀ (V d (cV L) (jV L)) none (src := gSrc) (dst := gDst o6 h6) (hg := gth) (offs := gOff o5 h5) (hn := hn) (sem := sem) (k := k) (Q := Q)
    (qo := fullShare) (fs := ft) (fd := fr) (fo := fo) (default : HIx 1) rowCredit (rowR d L q fr fo ft) (rowR d L q (rowsOf fo ft) fo ft) o6 hle
    (row_credit o6 h6) hin (fun j => pieceOf q 896 (by decide) ⟨o6 + j.val, Nat.lt_of_lt_of_le (Nat.add_lt_add_left j.isLt o6) hle⟩) ?_ ?_
  · intro j
    have hj : j.val < 128 := j.isLt
    have e1 := set_gDst_row o6 h6 j ⟨o6 + j.val, Nat.lt_of_lt_of_le (Nat.add_lt_add_left hj o6) hle⟩ rfl
    have e2 := emb_gOff o5 h5 (S128.rowMajor.symm (j.cast hn.symm)) ⟨o6 + j.val, by omega⟩ (by have := symm_val hn j; show o6 + j.val = _; rw [this, ← ho])
    rw [e1, e2, set_gSrc]
  · intro j
    have hj : j.val < 128 := j.isLt
    have e1 := set_gDst_row o6 h6 j ⟨o6 + j.val, Nat.lt_of_lt_of_le (Nat.add_lt_add_left hj o6) hle⟩ rfl
    have e2 := emb_gOff o5 h5 (S128.rowMajor.symm (j.cast hn.symm)) ⟨o6 + j.val, by omega⟩ (by have := symm_val hn j; show o6 + j.val = _; rw [this, ← ho])
    rw [e1, e2, set_gSrc, pointsTo_congr (landed o5 o6 h5 h6 ho fr fo ft hn hin j ⟨o6 + j.val, by omega⟩ rfl)]

theorem rows_univ : (Finset.univ : Finset S896x128.Idx) = Finset.univ.biUnion rowSet := by
  ext x
  simp only [Finset.mem_univ, Finset.mem_biUnion, _root_.true_and, true_iff]
  exact ⟨x 0, by simp [rowSet]⟩

theorem rows_disjoint : ∀ t ∈ (Finset.univ : Finset (Fin 896)), ∀ t' ∈ (Finset.univ : Finset (Fin 896)), t ≠ t' → Disjoint (rowSet t) (rowSet t') :=
  fun t _ t' _ hne => Finset.disjoint_left.mpr fun x hx hx' => hne (Fin.ext (by
    have h1 : (x 0 : ℕ) = t.val := by simpa [rowSet] using hx
    have h2 : (x 0 : ℕ) = t'.val := by simpa [rowSet] using hx'
    omega))

theorem entries_univ : (Finset.univ : Finset S7x128.Idx) = Finset.univ.biUnion fun t : Fin 896 => {entry t} := by
  ext x
  simp only [Finset.mem_univ, Finset.mem_biUnion, _root_.true_and, true_iff]
  have h0 : (x 0 : ℕ) < 7 := (x 0).isLt
  have h1 : (x 1 : ℕ) < 128 := (x 1).isLt
  refine ⟨⟨128 * (x 0 : ℕ) + (x 1 : ℕ), by omega⟩, Finset.mem_singleton.mpr (funext fun a => Fin.ext ?_)⟩
  match a with
  | 0 => show (x 0 : ℕ) = (128 * (x 0 : ℕ) + (x 1 : ℕ)) / 128; omega
  | 1 => show (x 1 : ℕ) = (128 * (x 0 : ℕ) + (x 1 : ℕ)) % 128; omega

theorem entries_disjoint : ∀ t ∈ (Finset.univ : Finset (Fin 896)), ∀ t' ∈ (Finset.univ : Finset (Fin 896)), t ≠ t' →
    Disjoint ({entry t} : Finset S7x128.Idx) {entry t'} :=
  fun t _ t' _ hne => Finset.disjoint_singleton.mpr fun h => hne (Fin.ext (by
    have h1 : t.val / 128 = t'.val / 128 := congrArg (fun x : S7x128.Idx => (x 0 : ℕ)) h
    have h2 : t.val % 128 = t'.val % 128 := congrArg (fun x : S7x128.Idx => (x 1 : ℕ)) h
    omega))

/-- The scratch whole is its 896 rows. -/
theorem rows_whole (fr : S896x128.Idx → Elt F .f32) : ((rV).view.loc (V d (cV L) (jV L)) ↦{fullShare} fr : sProp 𝕄)
    = bigSep Finset.univ fun t : Fin 896 => (rV).view.loc (V d (cV L) (jV L)) ↦[rowSet t]{fullShare} fr :=
  Eq.trans (congrArg (fun I : Finset S896x128.Idx => ((rV).view.loc (V d (cV L) (jV L)) ↦[I]{fullShare} fr : sProp 𝕄)) rows_univ)
    (pointsTo_biUnion (ℓ := (rV).view.loc (V d (cV L) (jV L))) Finset.univ rowSet rows_disjoint)

/-- The list whole is its 896 entries. -/
theorem entries_whole (fo : S7x128.Idx → BitVec 32) : ((sV).view.loc (V d (cV L) (jV L)) ↦{fullShare} fo : sProp 𝕄)
    = bigSep Finset.univ fun t : Fin 896 => (sV).view.loc (V d (cV L) (jV L)) ↦[{entry t}]{fullShare} fo :=
  Eq.trans (congrArg (fun I : Finset S7x128.Idx => ((sV).view.loc (V d (cV L) (jV L)) ↦[I]{fullShare} fo : sProp 𝕄)) entries_univ)
    (pointsTo_biUnion (ℓ := (sV).view.loc (V d (cV L) (jV L))) Finset.univ (fun t : Fin 896 => ({entry t} : Finset S7x128.Idx)) entries_disjoint)

/-- The scratch, the list and the share of the table are the 896 rows of the batch. -/
theorem rows_eq (q : PosShare TreeShare) (fr : S896x128.Idx → Elt F .f32) (fo : S7x128.Idx → BitVec 32) (ft : S100000x128.Idx → Elt F .f32) :
    (bigSep Finset.univ (rowR d L q fr fo ft) : sProp 𝕄)
      = iprop((((rV).view.loc (V d (cV L) (jV L)) ↦{fullShare} fr) ∗ ((sV).view.loc (V d (cV L) (jV L)) ↦{fullShare} fo))
          ∗ ((tV).view.loc (V d (cV L) (jV L)) ↦{q} ft)) := by
  rw [rows_whole, entries_whole, pointsTo_piecesOf (ℓ := (tV).view.loc (V d (cV L) (jV L))) Finset.univ ft (o := 896) (by decide) q, ← bigSep_sep', ← bigSep_sep']

end Cert.Proof.K

end
-- ==== Proof.Tile.lean ====
/-
  ONE TASK OF THE SPARSECORE CALL, at a symbolic core and subcore: the fetch of its block of the index list, the seven
  indirect gathers on one semaphore and their seven waits, the write-out of its 896 rows. It leaves the gathered rows in
  its block of the result, and the launch theorem's obligation for the call's tasks follows.
-/
module

public import proofs.«01_k».proof.Proof.Gathers

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v1_scv : Memref Cert.KernelIdeal.sig Kind.scVector Space.hbm Cert.KernelIdeal.S32x7x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S28672x128 EltTy.f32)
local notation "sV" => (Memref.whole Cert.KernelIdeal.cc0_scratch0 : Memref Cert.KernelIdeal.sig Kind.scVector Space.vmem Cert.KernelIdeal.S7x128 EltTy.i32)
local notation "rV" => (Memref.whole Cert.KernelIdeal.cc0_scratch1 : Memref Cert.KernelIdeal.sig Kind.scVector Space.vmem Cert.KernelIdeal.S896x128 EltTy.f32)

variable (m : (ℓ : Loc nD τ sig) → Buf (Elt F) ℓ) (X : (d : Dev nD) → Buf (Elt F) (iLoc d))

/-! ## The task's buffers and semaphores -/

section Tile

variable (d : Dev nD) (L : grid0.Coords)

theorem pts_iBlk (f : Buf (Elt F) (iLoc d)) :
    ((iBlk L).view.loc (V d (cV L) (jV L)) ↦[(iBlk L).view.set]{fullShare} f : sProp 𝕄) = iLoc d ↦[iSet (wL L)]{fullShare} f := by
  rw [set_iBlk]
theorem pts_oBlk (f : Buf (Elt F) (oLoc d)) :
    ((oBlk L).view.loc (V d (cV L) (jV L)) ↦[(oBlk L).view.set]{fullShare} f : sProp 𝕄) = oLoc d ↦[oSet (wL L)]{fullShare} f := by
  rw [set_oBlk]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev fetchCell (d : Dev nD) (c : Fin τ.nSC) (i : Fin τ.nSub) : GSem nD τ sig := (V d c i, .dma cc0_scoped0.sem)
abbrev gatherCell (d : Dev nD) (c : Fin τ.nSC) (i : Fin τ.nSub) : GSem nD τ sig := (V d c i, .dma cc0_scratch2.sem)
abbrev outCell (d : Dev nD) (c : Fin τ.nSC) (i : Fin τ.nSub) : GSem nD τ sig := (V d c i, .dma cc0_scratch3.sem)

/-- The three semaphores of the task are among the subcore's own. -/
theorem ownSems0_V :
    (ownSems0 (V d (cV L) (jV L)) : sProp 𝕄)
      = iprop(semVal (fetchCell d (cV L) (jV L)) 0 ∗ semVal (gatherCell d (cV L) (jV L)) 0 ∗ semVal (outCell d (cV L) (jV L)) 0
          ∗ bigSep ((((ownCells (V d (cV L) (jV L))).erase (fetchCell d (cV L) (jV L))).erase (gatherCell d (cV L) (jV L))).erase (outCell d (cV L) (jV L)))
              fun g => semVal g 0) := by
  unfold SparseCore.Cfg.ownSems0
  rw [SparseCore.bigSep_erase' ((mem_ownCells (g := fetchCell d (cV L) (jV L))).mpr ⟨rfl, by
      show (SemLoc.dma cc0_scoped0.sem : SemLoc sig).isScoped .scVector = true; decide⟩),
    SparseCore.bigSep_erase' (Finset.mem_erase.mpr ⟨by simp [fetchCell, gatherCell]; decide, (mem_ownCells (g := gatherCell d (cV L) (jV L))).mpr ⟨rfl, by
      show (SemLoc.dma cc0_scratch2.sem : SemLoc sig).isScoped .scVector = true; decide⟩⟩),
    SparseCore.bigSep_erase' (Finset.mem_erase.mpr ⟨by simp [gatherCell, outCell]; decide, Finset.mem_erase.mpr ⟨by simp [fetchCell, outCell]; decide,
      (mem_ownCells (g := outCell d (cV L) (jV L))).mpr ⟨rfl, by show (SemLoc.dma cc0_scratch3.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The list the task fetches. -/
abbrev listOf : S7x128.Idx → BitVec 32 := fun j => X d (ix3 (n0 := 32) (n1 := 7) (n2 := 128) (wL L) (j 0) (j 1))

/-- What the fetch lands in the list's scratch. -/
theorem fetched (fs : Buf (Elt F) ((V d (cV L) (jV L)).loc cc0_scratch0))
    (pay : S7x128.Idx → Elt F .i32) (hpay : pay = (iBlk L).view.read (Elt F) (X d)) :
    View.write (Elt F) (sV).view fs pay Finset.univ = listOf X d L := by
  subst hpay
  rw [View.write_whole_univ]
  funext j
  refine (View.read_apply _ _).trans ((cast_eq _ _).trans ?_)
  rw [emb_iBlk]

/-- What the write-out leaves in the task's block of the result. -/
theorem written (fo : Buf (Elt F) (oLoc d)) (ft : Buf (Elt F) (tLoc d)) :
    ∀ i ∈ oSet (wL L), View.write (Elt F) (oBlk L).view fo ((rV).view.read (Elt F) (rowsOf (listOf X d L) ft)) Finset.univ i
      = gathered (X d) ft i := by
  intro i hi
  rw [← set_oBlk] at hi
  obtain ⟨y, -, rfl⟩ := Finset.mem_map.mp hi
  refine (View.write_emb_of_mem (v := (oBlk L).view) fo _ (Finset.mem_univ y)).trans ((cast_eq _ _).trans ?_)
  refine (View.read_apply _ _).trans ((cast_eq _ _).trans ?_)
  rw [emb_oBlk]
  have hy : (y 0 : ℕ) < 896 := (y 0).isLt
  have h1 : (896 * (wL L).val + (y 0 : ℕ)) / 896 = (wL L).val := by
    rw [Nat.mul_add_div (by decide), Nat.div_eq_of_lt hy, Nat.add_zero]
  have h2 : (896 * (wL L).val + (y 0 : ℕ)) % 896 = (y 0 : ℕ) := by
    rw [Nat.mul_add_mod, Nat.mod_eq_of_lt hy]
  have h3 : (896 * (wL L).val + (y 0 : ℕ)) % 128 = (y 0 : ℕ) % 128 := by
    rw [show 896 * (wL L).val = 128 * (7 * (wL L).val) by rw [← Nat.mul_assoc], Nat.mul_add_mod]
  refine congrArg ft (congrArg (fun r : S32x7x128.Idx => ix2 (n0 := 100000) (n1 := 128) (rowNo (X d r)) (y 1)) ?_)
  funext a
  refine Fin.ext ?_
  match a with
  | 0 => exact h1.symm
  | 1 => exact congrArg (· / 128) h2.symm
  | 2 => exact h3.symm

/-- The same, for contents spelt as one piece laid over the whole block. -/
theorem written_piece (fo : Buf (Elt F) (oLoc d)) (ft : Buf (Elt F) (tLoc d)) (pay : S896x128.Idx → Elt F .f32)
    (hpay : pay = (rV).view.read (Elt F) (rowsOf (listOf X d L) ft)) :
    ∀ i ∈ oSet (wL L), (oBlk L).view.writes (Elt F) fo [⟨Rect.whole S896x128, pay⟩] i = gathered (X d) ft i := by
  subst hpay
  intro i hi
  refine Eq.trans ?_ (written X d L fo ft i hi)
  exact (congrFun (View.write_univ_eq_writes_whole (oBlk L).view fo [] _) i).symm

set_option maxHeartbeats 4000000 in
/-- The task on vector subcore `(L 0, L 1)` of device `d`: from its pieces to its pieces with the gathered rows in its
    block of the result. -/
theorem tile_body (hF : (K (F := F)).Facts) (hX : InRange X) (O : CellTallies nD τ sig (HIx 1)) (W : Waits sig (HIx 1)) (hO : ∀ g, O g none = 0) :
    iprop(levAts (K (F := F)).L (K (F := F)).lev ∗ emp ∗ goW m X d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L iV (Memref.isWhole_whole _) tV (Memref.isWhole_whole _) oV (Memref.isWhole_whole _)
            sV (Memref.isWhole_whole _) rV (Memref.isWhole_whole _) cc0_scratch2 cc0_scratch3 cc0_scoped0)
          fun _ => iprop(tdW m X d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton, k0_part2_eq_skeleton, k0_part3_eq_skeleton]
  unfold k0_part1_skel k0_part2_skel k0_part3_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlk (F := F) d L _).symm) $$ Hi
  ihave Ho' := (Entails.of_eq (pts_oBlk (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hlt : ∀ x, (listOf X d L x).toNat < 100000 := fun x => hX d _
  ihave Hs2 := (Entails.of_eq (congrArg (fun f : Buf (Elt F) ((V d (cV L) (jV L)).loc cc0_scratch0) =>
    ((sV).view.loc (V d (cV L) (jV L)) ↦{fullShare} f : sProp 𝕄)) (fetched X d L fs (tile_body.sl.dma0 X d L) rfl))) $$ Hs'
  ihave Hrows := (Entails.of_eq (rows_eq d L (tq (wL L)) fr (listOf X d L) (m (tLoc d))).symm) $$ [Hr' Hs2 Ht']
  · isplitl [Hr' Hs2]
    · isplitl [Hr'] <;> iassumption
    · iexact Ht'
  imod (Transfers.batch_alloc' countersEmb (V d (cV L) (jV L)) (default : HIx 1) rowCredit
    (rowR d L (tq (wL L)) (rowsOf (listOf X d L) (m (tLoc d))) (listOf X d L) (m (tLoc d))) (sm := .dma cc0_scratch2.sem) (E := Set.univ)) $$ HsemB with HB
  ihave Hpend := (Entails.of_eq (show bigSep Finset.univ (rowR d L (tq (wL L)) fr (listOf X d L) (m (tLoc d)))
      = bigSep (Transfers.pending 0) (rowR d L (tq (wL L)) fr (listOf X d L) (m (tLoc d))) by rw [Transfers.pending_zero])) $$ Hrows
  iapply (wp_tileGather d L 0 0 inb_S7x128_S1x128_0_0 inb_S896x128_S128x128_0_0 rfl (by decide) (tq (wL L)) fr (listOf X d L) (m (tLoc d)) hlt) $$ [HB Hpend]
  · isplitl [HB] <;> iassumption
  iintro ⟨HB, Hpend⟩
  sl_exec
  iapply (wp_tileGather d L 1 128 inb_S7x128_S1x128_1_0 inb_S896x128_S128x128_128_0 rfl (by decide) (tq (wL L)) fr (listOf X d L) (m (tLoc d)) hlt) $$ [HB Hpend]
  · isplitl [HB] <;> iassumption
  iintro ⟨HB, Hpend⟩
  sl_exec
  iapply (wp_tileGather d L 2 256 inb_S7x128_S1x128_2_0 inb_S896x128_S128x128_256_0 rfl (by decide) (tq (wL L)) fr (listOf X d L) (m (tLoc d)) hlt) $$ [HB Hpend]
  · isplitl [HB] <;> iassumption
  iintro ⟨HB, Hpend⟩
  sl_exec
  iapply (wp_tileGather d L 3 384 inb_S7x128_S1x128_3_0 inb_S896x128_S128x128_384_0 rfl (by decide) (tq (wL L)) fr (listOf X d L) (m (tLoc d)) hlt) $$ [HB Hpend]
  · isplitl [HB] <;> iassumption
  iintro ⟨HB, Hpend⟩
  sl_exec
  iapply (wp_tileGather d L 4 512 inb_S7x128_S1x128_4_0 inb_S896x128_S128x128_512_0 rfl (by decide) (tq (wL L)) fr (listOf X d L) (m (tLoc d)) hlt) $$ [HB Hpend]
  · isplitl [HB] <;> iassumption
  iintro ⟨HB, Hpend⟩
  sl_exec
  iapply (wp_tileGather d L 5 640 inb_S7x128_S1x128_5_0 inb_S896x128_S128x128_640_0 rfl (by decide) (tq (wL L)) fr (listOf X d L) (m (tLoc d)) hlt) $$ [HB Hpend]
  · isplitl [HB] <;> iassumption
  iintro ⟨HB, Hpend⟩
  sl_exec
  iapply (wp_tileGather d L 6 768 inb_S7x128_S1x128_6_0 inb_S896x128_S128x128_768_0 rfl (by decide) (tq (wL L)) fr (listOf X d L) (m (tLoc d)) hlt) $$ [HB Hpend]
  · isplitl [HB] <;> iassumption
  iintro ⟨HB, Hpend⟩
  sl_exec
  iapply (Transfers.wp_waitBatchMulO countersEmb 𝒱₀ (V d (cV L) (jV L)) none (default : HIx 1) 128
    (gather_credit 0 inb_S896x128_S128x128_0_0) (u := 0) (j := 896) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128
    (gather_credit 128 inb_S896x128_S128x128_128_0) (u := 0 + 128 * rowCredit) (j := 896) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128
    (gather_credit 256 inb_S896x128_S128x128_256_0) (u := 0 + 128 * rowCredit + 128 * rowCredit) (j := 896) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128
    (gather_credit 384 inb_S896x128_S128x128_384_0) (u := 0 + 128 * rowCredit + 128 * rowCredit + 128 * rowCredit) (j := 896) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128
    (gather_credit 512 inb_S896x128_S128x128_512_0) (u := 0 + 128 * rowCredit + 128 * rowCredit + 128 * rowCredit + 128 * rowCredit) (j := 896) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128
    (gather_credit 640 inb_S896x128_S128x128_640_0) (u := 0 + 128 * rowCredit + 128 * rowCredit + 128 * rowCredit + 128 * rowCredit + 128 * rowCredit) (j := 896) (by omega)) $$ [HB HO]
  · isplitl [HB]; · iexact HB
    isplitl [HO]; · iexact HO
    iapply (Transfers.MayWaits.elim (SemLoc.dma cc0_scratch2.sem)) $$ Hmw
  iintro ⟨HB, HO⟩
  sl_step
  iapply (Transfers.wp_waitBatchAllO countersEmb 𝒱₀ (V d (cV L) (jV L)) none (default : HIx 1)
    (gather_credit 768 inb_S896x128_S128x128_768_0) rowCredit_pos (n := 896) (u := 0 + 128 * rowCredit + 128 * rowCredit + 128 * rowCredit + 128 * rowCredit + 128 * rowCredit + 128 * rowCredit) (by omega)) $$ [HB HO]
  · isplitl [HB]; · iexact HB
    isplitl [HO]; · iexact HO
    iapply (Transfers.MayWaits.elim (SemLoc.dma cc0_scratch2.sem)) $$ Hmw
  iintro ⟨Hrows, HsemB, HO⟩
  ihave Hall := (Entails.of_eq (rows_eq d L (tq (wL L)) (rowsOf (listOf X d L) (m (tLoc d))) (listOf X d L) (m (tLoc d)))) $$ Hrows
  icases Hall with ⟨⟨Hr', Hs'⟩, Ht'⟩
  beta_reduce
  have hret : ∀ (k : PUnit → Prog (TpuEff nD τ sig (Elt F) Λ₀ (.scVector (cV L) (jV L))) PUnit), (Prog.ret PUnit.unit).bind k = k PUnit.unit := fun _ => rfl
  have hpure : ∀ (k : PUnit → Prog (TpuEff nD τ sig (Elt F) Λ₀ (.scVector (cV L) (jV L))) PUnit), (Pure.pure PUnit.unit : Prog _ PUnit).bind k = k PUnit.unit := fun _ => rfl
  rw [hret, hpure]
  beta_reduce
  sl_exec
  sl_step
  ihave Ho2 := (Entails.of_eq (pts_oBlk (F := F) d L _)) $$ Ho'
  ihave Ho3 := (Entails.of_eq (pointsTo_congr (written_piece X d L (m (oLoc d)) (m (tLoc d)) (tile_body.sl.dma0_1 m X d L) rfl))) $$ Ho2
  isplitl [Hi' Ht' Ho3]
  · isplitl [Hi']; · iapply (Entails.of_eq (pts_iBlk (F := F) d L _)); iexact Hi'
    isplitl [Ht']; · iexact Ht'
    iexact Ho3
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  repeat first
    | exact .inl hp
    | rcases hp with rfl | hp
      · exact .inr rfl

end Tile

end Cert.Proof.K

end
-- ==== Proof.TileObl.lean ====
/-
  The launch theorem's obligation for the tasks of the SparseCore call, from one task's run.
-/
module

public import proofs.«01_k».proof.Proof.Tile

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v1_scv : Memref Cert.KernelIdeal.sig Kind.scVector Space.hbm Cert.KernelIdeal.S32x7x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S28672x128 EltTy.f32)
local notation "sV" => (Memref.whole Cert.KernelIdeal.cc0_scratch0 : Memref Cert.KernelIdeal.sig Kind.scVector Space.vmem Cert.KernelIdeal.S7x128 EltTy.i32)
local notation "rV" => (Memref.whole Cert.KernelIdeal.cc0_scratch1 : Memref Cert.KernelIdeal.sig Kind.scVector Space.vmem Cert.KernelIdeal.S896x128 EltTy.f32)

variable (m : (ℓ : Loc nD τ sig) → Buf (Elt F) ℓ) (X : (d : Dev nD) → Buf (Elt F) (iLoc d))

section Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) tV (Memref.isWhole_whole _) oV (Memref.isWhole_whole _)
          sV (Memref.isWhole_whole _) rV (Memref.isWhole_whole _) cc0_scratch2 cc0_scratch3 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the call's tasks. -/
theorem tileObl (hF : (K (F := F)).Facts) (hX : InRange X) : (K (F := F)).TileObl (D (F := F)) 𝒱 (P m X) v₀ 0 := by
  intro d c i O W hO _ _
  simp only [show (P m X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m X d (coordsV ⟨_, hci.1⟩ ⟨_, hci.2⟩) hF hX O W hO).trans (wp_mono frame _ _ fun _ => obl_post)

end Tile

end Cert.Proof.K

end
-- ==== Proof.Run.lean ====
/-
  THE PROGRAM'S RUN: from a memory whose index list, as the tasks read it, stays within the table, the program ends with its
  result at the pipeline's value, its arguments as they were and every semaphore back at zero.
-/
module

public import proofs.«01_k».proof.Proof.TileObl
public import proofs.«01_k».proof.Proof.Main

@[expose] public section

set_option maxRecDepth 16384

noncomputable section

namespace Cert.Proof.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- What the program ends in: the value and the arguments on every device, every semaphore at zero. -/
def QC : PUnit × MemSt nD τ sig (Elt F) → Prop := fun r => (∀ d : Dev nD, Ends m d r.2.mem) ∧ r.2.sem = fun _ => 0

theorem run_main [∀ e, Nonempty (Elt F e)] (hX : InRange (idxList m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (idxList m)) (A := ∅) facts v₀
    (fun q hq => match q with | 0 => nomatch hq)
    (fun q _ => match q with | 0 => tileObl m (idxList m) facts hX)
    (fun q _ => match q with | 0 => SparseCore.Cfg.VecSplit.of_plain (vecSplit m (idxList m)))
    m ρ main (fun d => G (F := F) d) (FIN m) (u₀ (F := F)) (sep_elim_left.trans (hu₀ m (idxList m))) (hmain m ρ) (fq m) (hfin m) (QC m)
    (fun s' h hz => ⟨fun d => ends_of_fq m d s' (h d), hz⟩)

end Cert.Proof.K

end
-- ==== Proof.Frames.lean ====
/-
  THE FRAMES: each program runs to the end, leaves its arguments as they were and every semaphore at zero. The kernel's two come
  from the one run.
-/
module

public import proofs.«01_k».proof.Proof.Run
public import proofs.«01_k».proof.Proof.Pre
public import proofs.«01_k».proof.Proof.Gen.Kernel
public import proofs.«01_k».proof.Proof.Gen.ReferenceIdeal
public import proofs.«01_k».proof.Proof.Gen.ReferenceIdeal.Run
public import Idealize.ShloMosaic.Lib.StableHlo.RunHlo

@[expose] public section

set_option maxRecDepth 16384

noncomputable section

namespace Cert.Proof.K

open Idealize.ShloMosaic Idealize.ShloMosaic.TcCoe Idealize.SL.Sem

/-! ## The two programs' bodies are one -/

/-- The kernels' bodies, label by label, are the same programs in both texts. -/
theorem bodies_same : Cert.Kernel.defs₀ (F := Bits) = Cert.KernelIdeal.defs₀ (F := Bits) := by
  funext p ℓ a
  match p, ℓ, a with
  | .scVector c s, 0, _ => rfl
  | .scVector c s, 1, _ => rfl
  | .tc, 0, _ => rfl
  | .tc, 1, (t, s) => rfl
  | .scScalar c, _, _ => rfl

/-- So are the tables that the two programs run under. -/
theorem tables_same : Cert.Kernel.defs (F := Bits) = Cert.KernelIdeal.defs (F := Bits) := by
  show Cert.Kernel.sc.defs (Pipeline.defs Cert.Kernel.pcfgs Cert.Kernel.defs₀)
    = Cert.KernelIdeal.sc.defs (Pipeline.defs Cert.KernelIdeal.pcfgs Cert.KernelIdeal.defs₀)
  exact congrArg (fun D => Cert.KernelIdeal.sc.defs (Pipeline.defs Cert.KernelIdeal.pcfgs D)) bodies_same

/-! ## The frames -/

/-- The kernel over the machine's floats: it terminates, its arguments and its semaphores as they were. -/
theorem frame_kernel : Cert.quiescent_Kernel := by
  intro m ρ hp
  have h := run_main (F := Bits) m ρ (inRange_of m fun d => below_of_in_vocab _ _ _ _ _ _ (hp d))
  rw [← tables_same] at h
  exact θ_run_mono h fun _ h => ⟨fun c => (h.1 c).2, h.2⟩

/-- The idealized kernel likewise. -/
theorem frame_ideal : Cert.quiescent_KernelIdeal := fun m ρ hp =>
  (θ_run Cert.KernelIdeal.defs _ _).mono (fun _ h => ⟨fun c => (h.1 c).2, h.2⟩)
    (run_main (F := Ideal) m ρ (inRange_of m fun d => below_of_in_vocab _ _ _ _ _ _ (hp d)))

/-- The reference over the extended reals; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.K

end
-- ==== Proof.PreFinite.lean ====
/-
  THE ALGEBRAIC CLAIM'S PRECONDITION READ: every index names a row of the table, every float is a real number; and the frames
  under it.
-/
module

public import proofs.«01_k».proof.Proof.Frames
public import proofs.«01_k».proof.Proof.Gen.Pre_finite_in_vocab

@[expose] public section

set_option maxRecDepth 16384

noncomputable section

namespace Cert.Proof.K

open Idealize.ShloMosaic Idealize.ShloMosaic.TcCoe Idealize.SL.Sem

/-! ## The precondition -/

instance subsingleton_scalar' : Subsingleton Cert.Pre_finite_in_vocab.S_.Idx := ⟨fun a b => funext fun k => k.elim0⟩

/-- An extended real whose absolute value is below infinity is a real number. -/
theorem real_of_abs (x : EReal) (e : Ideal.cmp .olt (max x (-x)) (Ideal.ofBits .f32 0x7F800000#32) = 1#1) : ∃ r : ℝ, x = r := by
  have ofBool_eq_one : ∀ b : Bool, (BitVec.ofBool b = 1#1) = (b = true) := by decide
  have top : Ideal.ofBits .f32 0x7F800000#32 = ⊤ := by simp [Ideal.ofBits, Ideal.ieee]
  simp only [Ideal.cmp, ofBool_eq_one, decide_eq_true_eq, top] at e
  induction x with
  | bot => simp at e
  | top => simp at e
  | coe r => exact ⟨r, rfl⟩

/-- Every number of a vector is real. -/
def AllReal {s : Shape} (x : FVec Ideal s .f32) : Prop := ∀ i, ∃ r : ℝ, (x i : EReal) = r

/-- Where `finite_in_vocab` holds, every index names a row of the table and every float is a real number. -/
theorem read_finite_in_vocab (a0 : IVec Cert.Pre_finite_in_vocab.S4096x7 32) (a1 : FVec Ideal Cert.Pre_finite_in_vocab.S100000x128 .f32)
    (a2 : FVec Ideal Cert.Pre_finite_in_vocab.S896x1024 .f32) (a3 : FVec Ideal Cert.Pre_finite_in_vocab.S1024 .f32)
    (a4 : FVec Ideal Cert.Pre_finite_in_vocab.S1024x45 .f32) (a5 : FVec Ideal Cert.Pre_finite_in_vocab.S45 .f32)
    (h : Cert.Pre_finite_in_vocab.fn (F := Ideal) a0 a1 a2 a3 a4 a5 = fun _ => 1#1) :
    (∀ i, (a0 i).toNat < 100000) ∧ AllReal a1 ∧ AllReal a2 ∧ AllReal a3 ∧ AllReal a4 ∧ AllReal a5 := by
  have h0 := congrFun h (fun k => k.elim0)
  obtain ⟨hv, h5⟩ := IntOp.andi_eq_one.1 h0
  obtain ⟨h5, b5⟩ := IntOp.andi_eq_one.1 h5
  obtain ⟨h5, b4⟩ := IntOp.andi_eq_one.1 h5
  obtain ⟨h5, b3⟩ := IntOp.andi_eq_one.1 h5
  obtain ⟨b1, b2⟩ := IntOp.andi_eq_one.1 h5
  exact ⟨fun i => below_of_word _ (Host.reduce_andi_all _ _ _ _ _ hv i), fun i => real_of_abs _ (Host.reduce_andi_all _ _ _ _ _ b1 i),
    fun i => real_of_abs _ (Host.reduce_andi_all _ _ _ _ _ b2 i), fun i => real_of_abs _ (Host.reduce_andi_all _ _ _ _ _ b3 i),
    fun i => real_of_abs _ (Host.reduce_andi_all _ _ _ _ _ b4 i), fun i => real_of_abs _ (Host.reduce_andi_all _ _ _ _ _ b5 i)⟩

/-! ## The frames under it -/

/-- The idealized kernel's run from finite floats. -/
theorem run_finite (m : (ℓ : Loc Cert.KernelIdeal.nD Cert.KernelIdeal.τ Cert.KernelIdeal.sig) → Buf (Elt Ideal) ℓ)
    (ρ : Dev Cert.KernelIdeal.nD → PrngReg) (hp : Cert.Pre_KernelIdeal_finite_in_vocab m) :
    θ_run (Cert.KernelIdeal.defs (F := Ideal)) (Cert.KernelIdeal.threads (F := Ideal)) ⟨m, fun _ => 0, ρ⟩ (QC m) :=
  run_main (F := Ideal) m ρ (inRange_of m fun d => (read_finite_in_vocab _ _ _ _ _ _ (hp d)).1)

/-- The idealized kernel under the algebraic claim's precondition. -/
theorem frame_ideal_finite : Cert.quiescent_KernelIdeal_pre_finite_in_vocab := fun m ρ hp =>
  (θ_run Cert.KernelIdeal.defs _ _).mono (fun _ h => ⟨fun c => (h.1 c).2, h.2⟩) (run_finite m ρ hp)

/-- The reference under the algebraic claim's precondition. -/
theorem frame_reference_finite : Cert.quiescent_ReferenceIdeal_pre_finite_in_vocab := fun m ρ _ => frame_reference m ρ trivial

end Cert.Proof.K

end
-- ==== Proof.Equation.lean ====
/-
  THE ALGEBRAIC CLAIM: from finite floats and indices in range the idealized kernel and the reference end with equal results.
-/
module

public import proofs.«01_k».proof.Proof.KernelValue
public import proofs.«01_k».proof.Proof.RefValue
public import proofs.«01_k».proof.Proof.PreFinite

@[expose] public section

set_option maxRecDepth 16384

noncomputable section

namespace Cert.Proof.K

open Idealize.ShloMosaic Idealize.ShloMosaic.TcCoe Idealize.SL.Sem

/-- The two results are equal: of real numbers, the log-probabilities' two bracketings agree. -/
theorem results_eq (m : (ℓ : Loc Cert.KernelIdeal.nD Cert.KernelIdeal.τ Cert.KernelIdeal.sig) → Buf (Elt Ideal) ℓ) (d : Dev Cert.KernelIdeal.nD)
    (x : IVec Cert.ReferenceIdeal.S4096x7 32) (t : FVec Ideal Cert.ReferenceIdeal.S100000x128 .f32) (w : FVec Ideal Cert.ReferenceIdeal.S896x1024 .f32)
    (b1 : FVec Ideal Cert.ReferenceIdeal.S1024 .f32) (w2 : FVec Ideal Cert.ReferenceIdeal.S1024x45 .f32) (b2 : FVec Ideal Cert.ReferenceIdeal.S45 .f32)
    (h0 : m ((d.tc : Thread Cert.KernelIdeal.nD Cert.KernelIdeal.τ).loc Cert.KernelIdeal.main_arg0) = x)
    (h1 : m ((d.tc : Thread Cert.KernelIdeal.nD Cert.KernelIdeal.τ).loc Cert.KernelIdeal.main_arg1) = t)
    (h2 : m ((d.tc : Thread Cert.KernelIdeal.nD Cert.KernelIdeal.τ).loc Cert.KernelIdeal.main_arg2) = w)
    (h3 : m ((d.tc : Thread Cert.KernelIdeal.nD Cert.KernelIdeal.τ).loc Cert.KernelIdeal.main_arg3) = b1)
    (h4 : m ((d.tc : Thread Cert.KernelIdeal.nD Cert.KernelIdeal.τ).loc Cert.KernelIdeal.main_arg4) = w2)
    (h5 : m ((d.tc : Thread Cert.KernelIdeal.nD Cert.KernelIdeal.τ).loc Cert.KernelIdeal.main_arg5) = b2)
    (hx : ∀ i, (x i).toNat < 100000) (ht : AllReal t) (hw : AllReal w) (hb1 : AllReal b1) (hw2 : AllReal w2) (hb2 : AllReal b2) :
    R.refOut x t w b1 w2 b2 = mlpOut (Vr m) d := by
  refine funext fun j : Cert.ReferenceIdeal.S4096x45.Idx => ?_
  have hj : j = ix2 (j 0) (j 1) := funext fun a => by
    match a with
    | ⟨0, _⟩ => rfl
    | ⟨1, _⟩ => rfl
  generalize j 0 = r at hj
  generalize j 1 = c at hj
  subst hj
  refine (R.refOut_apply x hx t w b1 w2 b2 r c).trans ((Spec.logProb_eq (fun i => ?_) c).trans (mlp_apply m d x t w b1 w2 b2 h0 h1 h2 h3 h4 h5 r c).symm)
  exact Spec.logit_real (fun _ _ => ht _) (fun _ _ _ => hw _) (fun _ => hb1 _) (fun _ _ => hw2 _) (fun _ => hb2 _) i

/-- The idealized kernel and the reference, from memories agreeing on the arguments: both end, with equal results. -/
theorem algebraic : Cert.algebraic_KernelIdeal_ReferenceIdeal_pre_finite_in_vocab := by
  intro m ρ m' ρ' hp hagree
  refine ⟨fun c => mlpOut (Vr m) c, (θ_run Cert.KernelIdeal.defs _ _).mono (fun _ h => fun c => h.1 c) (run_finite m ρ hp),
    (θ_run Cert.ReferenceIdeal.defs _ _).mono (fun _ h => fun c => ⟨(h c).1.trans ?_, (h c).2⟩) (Cert.ReferenceIdeal.Value.run (F := Ideal) m' ρ')⟩
  obtain ⟨e0, e1, e2, e3, e4, e5⟩ := hagree c
  obtain ⟨hx, ht, hw, hb1, hw2, hb2⟩ := read_finite_in_vocab _ _ _ _ _ _ (hp c)
  rw [R.res_eq, e0, e1, e2, e3, e4, e5]
  exact results_eq m c _ _ _ _ _ _ rfl rfl rfl rfl rfl rfl hx ht hw hb1 hw2 hb2

end Cert.Proof.K

end
-- ==== Proof.lean ====
/-
  THE CERTIFICATE: the claims of this directory, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Equation
public import proofs.«01_k».proof.Proof.Gen.Pre_in_vocab
public import proofs.«01_k».proof.Proof.Gen.Pre_finite_in_vocab
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, Cert.Pre_in_vocab.Gen.facts,
  Cert.Pre_finite_in_vocab.Gen.facts, K.frame_kernel, K.frame_ideal, K.frame_ideal_finite, K.frame_reference, K.frame_reference_finite, trivial, K.algebraic⟩

end Cert.Proof

end
